-- ==== Defs.lean ====
def Pre_Kernel [hPre_zone_in_range : Cert.Pre_zone_in_range.Facts] (m : (ℓ : Loc Cert.Kernel.nD Cert.Kernel.τ Cert.Kernel.sig) → Buf (Elt Bits) ℓ) : Prop :=
  ∀ c : Dev Cert.Kernel.nD,
    (Cert.Pre_zone_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_zone_in_range : Cert.Pre_zone_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_zone_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zone_in_range [hPre_zone_in_range : Cert.Pre_zone_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zone_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_zone_in_range : Cert.Pre_zone_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_zone_in_range : Cert.Pre_zone_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zone_in_range [hReferenceIdeal : Cert.ReferenceIdeal.Facts] [hPre_zone_in_range : Cert.Pre_zone_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zone_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39F0F0F1#32 ((1 / 2176 : ℝ) : EReal)

def algebraic_KernelIdeal_ReferenceIdeal [hKernelIdeal : Cert.KernelIdeal.Facts] [hReferenceIdeal : Cert.ReferenceIdeal.Facts] [hPre_zone_in_range : Cert.Pre_zone_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zone_in_range : Cert.Pre_zone_in_range.Facts),
    quiescent_Kernel (hKernel := hKernel) (hPre_zone_in_range := hPre_zone_in_range)
    ∧ quiescent_KernelIdeal (hKernelIdeal := hKernelIdeal) (hPre_zone_in_range := hPre_zone_in_range)
    ∧ quiescent_ReferenceIdeal (hReferenceIdeal := hReferenceIdeal)
    ∧ quiescent_ReferenceIdeal_pre_zone_in_range (hReferenceIdeal := hReferenceIdeal) (hPre_zone_in_range := hPre_zone_in_range)
    ∧ preserves_Kernel_KernelIdeal
    ∧ algebraic_KernelIdeal_ReferenceIdeal (hKernelIdeal := hKernelIdeal) (hReferenceIdeal := hReferenceIdeal) (hPre_zone_in_range := hPre_zone_in_range)
-- ==== Pre_zone_in_range.lean ====
abbrev S16384x2048 : Shape := ⟨2, ![16384, 2048]⟩
abbrev S16384 : Shape := ⟨1, ![16384]⟩
abbrev S16384x2 : Shape := ⟨2, ![16384, 2]⟩
abbrev S9x64 : Shape := ⟨2, ![9, 64]⟩
abbrev S2x64 : Shape := ⟨2, ![2, 64]⟩
abbrev S64 : Shape := ⟨1, ![64]⟩
abbrev S2176 : Shape := ⟨1, ![2176]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x2048 .f32) (main_arg1 : IVec S16384 32) (main_arg2 : FVec F S16384x2 .f32) (main_arg3 : FVec F S9x64 .f32) (main_arg4 : FVec F S2x64 .f32) (main_arg5 : FVec F S64 .f32) (main_arg6 : FVec F S2176 .f32) (main_arg7 : FVec F S2176 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 9#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x2048 : Shape := ⟨2, ![16384, 2048]⟩
abbrev S16384 : Shape := ⟨1, ![16384]⟩
abbrev S16384x2 : Shape := ⟨2, ![16384, 2]⟩
abbrev S9x64 : Shape := ⟨2, ![9, 64]⟩
abbrev S2x64 : Shape := ⟨2, ![2, 64]⟩
abbrev S64 : Shape := ⟨1, ![64]⟩
abbrev S2176 : Shape := ⟨1, ![2176]⟩
abbrev S_ : Shape := ⟨0, ![]⟩
abbrev S9x128 : Shape := ⟨2, ![9, 128]⟩
abbrev S16384x128 : Shape := ⟨2, ![16384, 128]⟩
abbrev S512 : Shape := ⟨1, ![512]⟩
abbrev S512x128 : Shape := ⟨2, ![512, 128]⟩
abbrev S1x64 : Shape := ⟨2, ![1, 64]⟩
abbrev S1x2176 : Shape := ⟨2, ![1, 2176]⟩
abbrev S16384x2176 : Shape := ⟨2, ![16384, 2176]⟩
abbrev S256x2048 : Shape := ⟨2, ![256, 2048]⟩
abbrev S256x128 : Shape := ⟨2, ![256, 128]⟩
abbrev S256x2 : Shape := ⟨2, ![256, 2]⟩
abbrev S256x2176 : Shape := ⟨2, ![256, 2176]⟩
abbrev S256x64 : Shape := ⟨2, ![256, 64]⟩
abbrev S256x1 : Shape := ⟨2, ![256, 1]⟩
abbrev S256 : Shape := ⟨1, ![256]⟩
abbrev S1x2048 : Shape := ⟨2, ![1, 2048]⟩
abbrev S1x128 : Shape := ⟨2, ![1, 128]⟩

abbrev nBuf : Table → Nat
  | .hbm => 16
  | .local .tc .vmem => 12
  | .local .scVector .vmem => 2
  | _ => 0

abbrev bufTy : (tb : Table) → Fin (nBuf tb) → BufTy
  | .hbm, ⟨0, _⟩ => ⟨S16384x2048, .f32⟩
  | .hbm, ⟨1, _⟩ => ⟨S16384, .i32⟩
  | .hbm, ⟨2, _⟩ => ⟨S16384x2, .f32⟩
  | .hbm, ⟨3, _⟩ => ⟨S9x64, .f32⟩
  | .hbm, ⟨4, _⟩ => ⟨S2x64, .f32⟩
  | .hbm, ⟨5, _⟩ => ⟨S64, .f32⟩
  | .hbm, ⟨6, _⟩ => ⟨S2176, .f32⟩
  | .hbm, ⟨7, _⟩ => ⟨S2176, .f32⟩
  | .hbm, ⟨8, _⟩ => ⟨S_, .i32⟩
  | .hbm, ⟨9, _⟩ => ⟨S_, .f32⟩
  | .hbm, ⟨10, _⟩ => ⟨S9x128, .f32⟩
  | .hbm, ⟨11, _⟩ => ⟨S16384x128, .f32⟩
  | .hbm, ⟨12, _⟩ => ⟨S1x64, .f32⟩
  | .hbm, ⟨13, _⟩ => ⟨S1x2176, .f32⟩
  | .hbm, ⟨14, _⟩ => ⟨S1x2176, .f32⟩
  | .hbm, ⟨15, _⟩ => ⟨S16384x2176, .f32⟩
  | .local .tc .vmem, ⟨0, _⟩ => ⟨S256x2048, .f32⟩
  | .local .tc .vmem, ⟨1, _⟩ => ⟨S256x2048, .f32⟩
  | .local .tc .vmem, ⟨2, _⟩ => ⟨S256x128, .f32⟩
  | .local .tc .vmem, ⟨3, _⟩ => ⟨S256x128, .f32⟩
  | .local .tc .vmem, ⟨4, _⟩ => ⟨S256x2, .f32⟩
  | .local .tc .vmem, ⟨5, _⟩ => ⟨S256x2, .f32⟩
  | .local .tc .vmem, ⟨6, _⟩ => ⟨S2x64, .f32⟩
  | .local .tc .vmem, ⟨7, _⟩ => ⟨S1x64, .f32⟩
  | .local .tc .vmem, ⟨8, _⟩ => ⟨S1x2176, .f32⟩
  | .local .tc .vmem, ⟨9, _⟩ => ⟨S1x2176, .f32⟩
  | .local .tc .vmem, ⟨10, _⟩ => ⟨S256x2176, .f32⟩
  | .local .tc .vmem, ⟨11, _⟩ => ⟨S256x2176, .f32⟩
  | .local .scVector .vmem, ⟨0, _⟩ => ⟨S512, .i32⟩
  | .local .scVector .vmem, ⟨1, _⟩ => ⟨S512x128, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v0_scv : Ref sig .scVector := ⟨.hbm, 10, rfl⟩
abbrev main_arg1_scv : Ref sig .scVector := ⟨.hbm, 1, rfl⟩
abbrev main_v1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg7_1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2176 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2176 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2176 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_d" => some ((1 / 2176 : ℝ) : EReal)
  | _ => none
-- ==== ReferenceIdeal.lean ====
abbrev S16384x2048 : Shape := ⟨2, ![16384, 2048]⟩
abbrev S16384 : Shape := ⟨1, ![16384]⟩
abbrev S16384x2 : Shape := ⟨2, ![16384, 2]⟩
abbrev S9x64 : Shape := ⟨2, ![9, 64]⟩
abbrev S2x64 : Shape := ⟨2, ![2, 64]⟩
abbrev S64 : Shape := ⟨1, ![64]⟩
abbrev S2176 : Shape := ⟨1, ![2176]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S1x64 : Shape := ⟨2, ![1, 64]⟩
abbrev S16384x2176 : Shape := ⟨2, ![16384, 2176]⟩
abbrev S1x2176 : Shape := ⟨2, ![1, 2176]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384x2, .f32⟩
  | .hbm, ⟨3, _⟩ => ⟨S9x64, .f32⟩
  | .hbm, ⟨4, _⟩ => ⟨S2x64, .f32⟩
  | .hbm, ⟨5, _⟩ => ⟨S64, .f32⟩
  | .hbm, ⟨6, _⟩ => ⟨S2176, .f32⟩
  | .hbm, ⟨7, _⟩ => ⟨S2176, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x64, .f32⟩
  | .hbm, ⟨27, _⟩ => ⟨S16384x64, .i1⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S1x64, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S16384x2176, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x2176, .f32⟩
  | .hbm, ⟨46, _⟩ => ⟨S16384x2176, .f32⟩
  | .hbm, ⟨47, _⟩ => ⟨S16384x2176, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x2176, .f32⟩
  | .hbm, ⟨55, _⟩ => ⟨S16384x2176, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x2176, .f32⟩
  | .hbm, ⟨61, _⟩ => ⟨S16384x2176, .f32⟩
  | .hbm, ⟨62, _⟩ => ⟨S1x2176, .f32⟩
  | .hbm, ⟨63, _⟩ => ⟨S16384x2176, .f32⟩
  | .hbm, ⟨64, _⟩ => ⟨S16384x2176, .f32⟩
  | .hbm, ⟨65, _⟩ => ⟨S1x2176, .f32⟩
  | .hbm, ⟨66, _⟩ => ⟨S16384x2176, .f32⟩
  | .hbm, ⟨67, _⟩ => ⟨S16384x2176, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_cst : Ref sig .tc := ⟨.hbm, 35, rfl⟩
abbrev main_call1_v0 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_cst_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩

abbrev nD : Nat := 1
abbrev τ : Topo := Topo.v7x

variable {F : FTy → Type} [FloatOps F]
-- ==== Proof.Ideal.Setup.lean ====
/-
  What every module about `KernelIdeal`'s run shares: the program's labels and body tables as the launch theorem reads
  them, the resource algebra (the SparseCore handshakes' rounds, the TensorCore pipeline's rounds, the transfers'
  counters), the arrays' locations, and the two arrays the program computes on the way: the padded table and the rows
  the SparseCore gathers from it. All of it for any float instance.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Pointwise.Index
public import Idealize.ShloMosaic.Lib.Pipeline.ValueKit.Geometry
public import Idealize.ShloMosaic.Lib.VecWindow
public import Idealize.ShloMosaic.Lib.Tactic

@[expose] public section

noncomputable section

namespace Cert.Proof.Ideal

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The one SparseCore call runs on sixteen tiles of each SparseCore, -/
theorem nSub_zero : (K (F := F)).nSub 0 = 16 := rfl
/-- and on two SparseCores. -/
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's decided side conditions: the handshake semaphores are distinct and not scoped, no SparseCore buffer is
    shared between its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds sit. -/
abbrev EH : Emb UH (MT nD τ sig (HIx 1) (Elt F) ℕ UU ℕ) := embL
/-- Where the pipeline's rounds sit. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by
  unfold EP embR; infer_instance

/-! ## The arrays -/

variable (m : (ℓ : Loc nD τ sig) → Buf (Elt F) ℓ)

/-- The zone indices, -/
abbrev iLoc (d : Dev nD) : Loc nD τ sig := (SparseCore.T d).loc main_arg1
/-- the padded table, -/
abbrev tLoc (d : Dev nD) : Loc nD τ sig := (SparseCore.T d).loc main_v0
/-- the gathered rows. -/
abbrev zLoc (d : Dev nD) : Loc nD τ sig := (SparseCore.T d).loc main_v1

/-- A word as a row of the nine-row table (itself, below nine). -/
def zrow (w : BitVec 32) : Fin 9 := ⟨w.toNat % 9, Nat.mod_lt _ (by decide)⟩

/-- The gathered rows: row `b` is the row of `T` that word `b` of `I` names. -/
def gathered {α : Type} (T : S9x128.Idx → α) (I : S16384.Idx → BitVec 32) : S16384x128.Idx → α :=
  fun y => T (ix2 (zrow (I (ix1 (y 0)))) (y 1))

/-- What the precondition says of the launch memory: every zone index is below nine. -/
def PreOK : Prop := ∀ (d : Dev nD) (j : S16384.Idx), (m (iLoc d) j : BitVec 32).toNat < 9

variable [FloatOps F] [Named F]

/-- The padded table: the nine rows of 64, then 64 columns of the zero word as a float. -/
def tab (d : Dev nD) : Buf (Elt F) (tLoc d) :=
  pad S9x128 ![0, 0] ![0, 64] ![0, 0] (m ((SparseCore.T d).loc main_arg3)) (sitofp .f32 (constantI S_ 32 0#32)) pads_S9x64_S9x128_000_0640 h_S_

/-- The rows the SparseCore leaves in `main_v1`. -/
def zrows (d : Dev nD) : Buf (Elt F) (zLoc d) := gathered (tab m d) (m (iLoc d))

end Cert.Proof.Ideal

end
-- ==== Proof.Ideal.Parts.lean ====
/-
  How the SparseCore call divides its work: the thirty-two parts of the indices and of the gathered rows, the views one
  task's copies take of them, and the values that pass through those views: what the gather reads for a row is the
  gathered array's row.
-/
module

public import proofs.«01_k».proof.Proof.Ideal.Setup

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

variable (m : (ℓ : Loc nD τ sig) → Buf (Elt F) ℓ)

/-! ## The thirty-two parts of the indices and of the rows -/

/-- The arrays and scratch buffers as a tile names them. -/
abbrev iM : Memref sig .scVector .hbm S16384 .i32 := Memref.whole main_arg1_scv
abbrev tM : Memref sig .scVector .hbm S9x128 .f32 := Memref.whole main_v0_scv
abbrev zM : Memref sig .scVector .hbm S16384x128 .f32 := Memref.whole main_v1_scv
abbrev sM : Memref sig .scVector .vmem S512 .i32 := Memref.whole cc0_scratch0
abbrev rM : Memref sig .scVector .vmem S512x128 .f32 := Memref.whole cc0_scratch1

theorem ipart : 32 ∣ S16384.size 0 := ⟨512, rfl⟩
theorem zpart : 32 ∣ S16384x128.size 0 := ⟨512, rfl⟩
/-- Part `w` of the indices: entries `[512 w, 512 w + 512)`. -/
abbrev iRect (w : Fin 32) : Rect S16384 := Rect.part (s := S16384) (a₀ := 0) ipart w
/-- Part `w` of the rows: rows `[512 w, 512 w + 512)`. -/
abbrev zRect (w : Fin 32) : Rect S16384x128 := Rect.part (s := S16384x128) (a₀ := 0) zpart w
abbrev iSet (w : Fin 32) : Finset S16384.Idx := ((iM).view.slice (iRect w)).set
abbrev zSet (w : Fin 32) : Finset S16384x128.Idx := ((zM).view.slice (zRect w)).set

/-- The number of the task on tile `i` of SparseCore `c`. -/
def num (c : Fin 2) (i : Fin 16) : Fin 32 := ⟨2 * i.val + c.val, by omega⟩

/-! ## The task's views -/

variable (d : Dev nD) (L : grid0.Coords)

abbrev cV (L : grid0.Coords) : Fin τ.nSC := (L 0).castLE hcore0
abbrev jV (L : grid0.Coords) : Fin τ.nSub := (L 1).castLE hsub0
/-- The task's number at the grid's coordinates. -/
abbrev wL (L : grid0.Coords) : Fin 32 := num (L 0) (L 1)

abbrev iRectK (L : grid0.Coords) : Rect S16384 := Rect.unit (s := S16384) (k0_off1 L) S512.size (k0_off1_inb L)
abbrev zRectK (L : grid0.Coords) : Rect S16384x128 := Rect.unit (s := S16384x128) (k0_off2 L) S512x128.size (k0_off2_inb L)
/-- The task's part of the indices and of the rows, and all of the table, as its copies address them. -/
abbrev iK (L : grid0.Coords) : Memref sig .scVector .hbm S512 .i32 := (iM).slice (iRectK L) (fun _ => rfl)
abbrev zK (L : grid0.Coords) : Memref sig .scVector .hbm S512x128 .f32 := (zM).slice (zRectK L) (fun _ => rfl)
abbrev tK : Memref sig .scVector .hbm S9x128 .f32 := (tM).slice (Rect.unit (s := S9x128) ![0, 0] S9x128.size inb_S9x128_S9x128_0_0) (fun _ => rfl)

/-- The task's 512 indices are part `2 s + c` of thirty-two, -/
theorem iRectK_eq : iRectK L = iRect (wL L) := by
  unfold iRectK iRect Rect.part Rect.block
  congr 1 <;> funext a <;> match a with | 0 => ?_
  · have e : (wL L).val = 2 * (L 1).val + (L 0).val := rfl
    rw [k0_off1_eq]; simp [Shape.partIx, Shape.partSize]; omega
  · simp [Shape.partSize]

/-- and so are its 512 rows. -/
theorem zRectK_eq : zRectK L = zRect (wL L) := by
  unfold zRectK zRect Rect.part Rect.block
  congr 1 <;> funext a <;> match a with | 0 => ?_ | 1 => ?_
  · have e : (wL L).val = 2 * (L 1).val + (L 0).val := rfl
    rw [k0_off2_eq]; simp [Shape.partIx, Shape.partSize]; omega
  · rw [k0_off2_eq]; simp [Shape.partIx, Shape.partSize]
  · simp [Shape.partSize]
  · simp [Shape.partSize]

theorem set_iK : (iK L).view.set = iSet (wL L) := by
  show ((iM).view.slice (iRectK L)).set = _
  rw [iRectK_eq]

theorem set_zK : (zK L).view.set = zSet (wL L) := by
  show ((zM).view.slice (zRectK L)).set = _
  rw [zRectK_eq]

/-! ## The values the task moves -/

/-- Every index the fetch landed in the list is a row of the table. -/
theorem inb (hpre : PreOK m) (fs : Buf (Elt F) ((sM).view.loc (V d (cV L) (jV L)))) (pay : S512.Idx → Elt F .i32)
    (hpay : pay = (iK L).view.read (Elt F) (m (iLoc d))) :
    ∀ x, ((sM).view.read (Elt F) (View.write (Elt F) (sM).view fs pay Finset.univ) x).toNat < S9x128.size gathers_S9x128_S512x128.axis := by
  subst hpay; intro x
  rw [View.write_whole_univ]
  simp only [Memref.view_whole, View.read_whole]
  rw [show ∀ j, (iK L).view.read (Elt F) (m (iLoc d)) j = m (iLoc d) ((iK L).view.emb j) from fun j => (View.read_apply _ _).trans (cast_eq _ _)]
  exact hpre d _

variable [FloatOps F] [Named F]

/-- Element `x` of the rows the task holds, read off the fetched list `o` and the table, is the gathered array's at the
    place the write-out puts it. -/
theorem gathered_at (hpre : PreOK m) (o : S512.Idx → Elt F .i32) (ho : o = (iK L).view.read (Elt F) (m (iLoc d)))
    (hn) (hin : ∀ x, (o x).toNat < S9x128.size gathers_S9x128_S512x128.axis) (x : S512x128.Idx) :
    SparseCore.gatherPayload gathers_S9x128_S512x128 ((tK).view.read (Elt F) (tab m d)) (SparseCore.rows o hn hin) x
      = zrows m d ((zK L).view.emb x) := by
  subst ho
  have e1 : k0_off1 L 0 = 1024 * (L 1).val + 512 * (L 0).val := by rw [k0_off1_eq]; rfl
  have e2 : k0_off2 L 0 = 1024 * (L 1).val + 512 * (L 0).val := by rw [k0_off2_eq]; rfl
  have e3 : k0_off2 L 1 = 0 := by rw [k0_off2_eq]; rfl
  have hz0 : ((zK L).view.emb x 0).val = 1024 * (L 1).val + 512 * (L 0).val + (x 0).val := by
    exact (ValueKit.rect_emb_unit_val (s := S16384x128) (k0_off2 L) S512x128.size (k0_off2_inb L) x 0).trans (congrArg (· + (x 0).val) e2)
  have hz1 : ((zK L).view.emb x 1).val = (x 1).val := by
    exact (ValueKit.rect_emb_unit_val (s := S16384x128) (k0_off2 L) S512x128.size (k0_off2_inb L) x 1).trans
      ((congrArg (· + (x 1).val) e3).trans (Nat.zero_add _))
  unfold SparseCore.gatherPayload zrows gathered
  rw [View.read_apply]
  refine (cast_eq _ _).trans (congrArg (tab m d) ?_)
  refine (Rect.emb_unit_full inb_S9x128_S9x128_0_0 _).trans ?_
  funext a; apply Fin.ext
  match a with
  | 0 =>
    refine (congrArg Fin.val (Shape.Gathers.idx_axis gathers_S9x128_S512x128 _ x)).trans ?_
    have hw : ∀ j : S512.Idx, (iK L).view.read (Elt F) (m (iLoc d)) j = m (iLoc d) ((iK L).view.emb j) :=
      fun j => (View.read_apply _ _).trans (cast_eq _ _)
    unfold SparseCore.rows
    refine Eq.trans ?_ (Nat.mod_eq_of_lt (hpre d _)).symm
    refine congrArg BitVec.toNat ((hw _).trans (congrArg (m (iLoc d)) ?_))
    refine (eq_ix1 _).trans (congrArg ix1 (Fin.ext ?_))
    refine (ValueKit.rect_emb_unit_val (s := S16384) (k0_off1 L) S512.size (k0_off1_inb L) _ 0).trans ?_
    refine Eq.trans ?_ hz0.symm
    have : ∀ k : Fin S512.numel, ((S512.rowMajor.symm k) 0).val = k.val := fun k =>
      (Shape.rowMajor_val_one (d := ![512]) _).symm.trans (congrArg Fin.val (S512.rowMajor.apply_symm_apply k))
    exact congrArg₂ (· + ·) e1 (this _)
  | 1 =>
    refine (Shape.Gathers.idx_of_ne gathers_S9x128_S512x128 _ x 1 (by decide)).trans ?_
    exact hz1.symm

/-- What the write-out leaves on the task's rows. -/
theorem landed (pay : S512x128.Idx → Elt F .f32) (hpay : ∀ x, pay x = zrows m d ((zK L).view.emb x)) :
    ∀ y ∈ (zK L).view.set, (zK L).view.writes (Elt F) (m (zLoc d)) [⟨Rect.whole S512x128, pay⟩] y = zrows m d y := by
  intro y hy
  obtain ⟨x, -, rfl⟩ := Finset.mem_map.mp hy
  exact (congrFun (View.read_writes_whole (zK L).view (m (zLoc d)) pay) x).trans (hpay x)

end Cert.Proof.Ideal

end
-- ==== Proof.Ideal.Gather.lean ====
/-
  The SparseCore call: one task on each of thirty-two tiles. Task `w` fetches its 512 zone indices, gathers the rows of
  the padded table they name, and writes them to rows `[512 w, 512 w + 512)` of `main_v1`. The triple carries the values:
  what the task leaves there is the gathered array itself on those rows. The task runs once, at a symbolic SparseCore and
  tile. Then the call's obligations to the launch theorem.
-/
module

public import proofs.«01_k».proof.Proof.Ideal.Parts

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

variable (m : (ℓ : Loc nD τ sig) → Buf (Elt F) ℓ)

variable [FloatOps F] [Named F]

/-- What task `w` is handed: its part of the indices, its share of the table, its part of the rows' array, there `f`. -/
def task (d : Dev nD) (w : Fin 32) (f : Buf (Elt F) (zLoc d)) : sProp 𝕄 :=
  iprop((iLoc d ↦[iSet w]{fullShare} m (iLoc d)) ∗ (tLoc d ↦{leaf 5 fullShare w} tab m d) ∗ (zLoc d ↦[zSet w]{fullShare} f))

instance task_storable (d : Dev nD) (w : Fin 32) (f : Buf (Elt F) (zLoc d)) : BI.Storable (upEmb : UEmb _ 𝕄) (task m d w f) := by
  unfold task; infer_instance

/-- What the call's handshakes carry: to SparseCore `c` its sixteen tasks' parts, to a tile its task's; back the same, the
    rows gathered. -/
def P : (K (F := F)).Pay (nD := nD) (Val := Elt F) (Name := ℕ) (U := UU) where
  st := fun q d c => match q with
    | 0 => bigSep Finset.univ fun i : Fin 16 => task m d (num (Fin.cast nCore_zero c) i) (m (zLoc d))
  dn := fun q d c => match q with
    | 0 => bigSep Finset.univ fun i : Fin 16 => task m d (num (Fin.cast nCore_zero c) i) (zrows m d)
  go := fun q d c i => match q with
    | 0 => task m d (num (Fin.cast nCore_zero c) (Fin.cast nSub_zero i)) (m (zLoc d))
  td := fun q d c i => match q with
    | 0 => task m d (num (Fin.cast nCore_zero c) (Fin.cast nSub_zero i)) (zrows m d)
  x := fun _ _ => iprop(emp)

instance P_storable : (P (F := F) m).IsStorable where
  st q d c := match q with
    | 0 => (inferInstance : BI.Storable (upEmb : UEmb _ 𝕄) (bigSep Finset.univ fun i : Fin 16 => task m d (num (Fin.cast nCore_zero c) i) (m (zLoc d))))
  dn q d c := match q with
    | 0 => (inferInstance : BI.Storable (upEmb : UEmb _ 𝕄) (bigSep Finset.univ fun i : Fin 16 => task m d (num (Fin.cast nCore_zero c) i) (zrows m d)))
  go q d c i := match q with
    | 0 => task_storable m d _ _
  td q d c i := match q with
    | 0 => task_storable m d _ _

/-! ## The task's resources as its copies address them -/

section Tile

variable (d : Dev nD) (L : grid0.Coords)

omit [FloatOps F] [Named F] in
theorem pts_iK (f : Buf (Elt F) (iLoc d)) :
    ((iK L).view.loc (V d (cV L) (jV L)) ↦[(iK L).view.set]{fullShare} f : sProp 𝕄) = iLoc d ↦[iSet (wL L)]{fullShare} f := by
  rw [set_iK]

omit [FloatOps F] [Named F] in
theorem pts_zK (f : Buf (Elt F) (zLoc d)) :
    ((zK L).view.loc (V d (cV L) (jV L)) ↦[(zK L).view.set]{fullShare} f : sProp 𝕄) = zLoc d ↦[zSet (wL L)]{fullShare} f := by
  rw [set_zK]

/-! ## The task's own semaphores and scratch -/

abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch2.sem)
abbrev cellC (d : Dev nD) (c : Fin τ.nSC) (i : Fin τ.nSub) : GSem nD τ sig := (V d c i, .dma cc0_scoped1.sem)

omit [FloatOps F] [Named F] in
/-- The tile's semaphores at zero: the fetch's, the gather's, the write-out's, and the others. -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

omit [FloatOps F] [Named F] in
/-- The tile's scratch: the index list, the gathered rows, and the rest. -/
theorem ownBufs_V :
    (ownBufs (V d (cV L) (jV L)) : sProp 𝕄)
      = iprop((∃ f, (sM).view.loc (V d (cV L) (jV L)) ↦{fullShare} f) ∗ (∃ f, (rM).view.loc (V d (cV L) (jV L)) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

set_option maxHeartbeats 4000000 in
/-- The task on tile `(L 0, L 1)`: from its part of the indices, its share of the table and its part of `main_v1`, it
    leaves the gathered rows there, the rest as it was. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (wL L) (m (zLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tM (Memref.isWhole_whole _) iM (Memref.isWhole_whole _) zM (Memref.isWhole_whole _)
            sM (Memref.isWhole_whole _) rM (Memref.isWhole_whole _) cc0_scratch2 cc0_scoped0 cc0_scoped1)
          fun _ => iprop(task m d (wL L) (zrows m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel task
  rw [(K (F := F)).scopedBufs_V hF d (cV L) (jV L), SparseCore.Cfg.scopedSems0_V (Val := Elt F) d (cV L) (jV L), ownSems0_V, ownBufs_V]
  iintro ⟨#Hlv, -, ⟨Hi, Ht, Hz⟩, ⟨⟨%fs, Hs⟩, ⟨%fr, Hr⟩, Hbufs⟩, ⟨HsA, HsB, HsC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (Entails.of_eq (pts_iK (F := F) d L _).symm) $$ Hi
  ihave Hz := (Entails.of_eq (pts_zK (F := F) d L _).symm) $$ Hz
  ihave Ht := (Entails.of_eq (show (tLoc d ↦{leaf 5 fullShare (wL L)} tab m d : sProp 𝕄)
    = (tM).view.loc (V d (cV L) (jV L)) ↦{leaf 5 fullShare (wL L)} tab m d from rfl)) $$ Ht
  sl_exec
  ihave Hts := (pointsTo_split_subset (q := leaf 5 fullShare (wL L)) (f := tab m d) (S := Finset.univ) (Finset.subset_univ (tK).view.set)).1 $$ Ht
  icases Hts with ⟨Hts, Htr⟩
  have hrs : (rM).view.set = Finset.univ := View.set_whole _
  have hss : (sM).view.set = Finset.univ := View.set_whole _
  ihave Hr := (Entails.of_eq (show ((rM).view.loc (V d (cV L) (jV L)) ↦{fullShare} fr : sProp 𝕄)
      = (rM).view.loc (V d (cV L) (jV L)) ↦[(rM).view.set]{fullShare} fr by rw [hrs])) $$ Hr
  ihave Hs := (Entails.of_eq (show ((sM).view.loc (V d (cV L) (jV L)) ↦{fullShare} View.write (Elt F) (sM).view fs (tile_body.sl.dma0 m d L) Finset.univ : sProp 𝕄)
      = (sM).view.loc (V d (cV L) (jV L)) ↦[(sM).view.set]{fullShare} View.write (Elt F) (sM).view fs (tile_body.sl.dma0 m d L) Finset.univ
      by rw [hss])) $$ Hs
  have hN : ∀ h : S9x128.Gathers 0 S512x128, ∑ j, ((rM).slice (S512x128.rowRect h.axis' j) (S512x128.stride_rowRect h.axis' j)).view.dmaCredit
      = (rM).view.dmaCredit := by decide
  iapply (SparseCore.wp_indirectGatherLocal countersEmb 𝒱₀ (V d (cV L) (jV L)) none (hg := gathers_S9x128_S512x128) (default : HIx 1)
      (rM).view.dmaCredit (hN _) (by decide) (inb m d L hpre fs _ rfl)) $$ [Hts Hr Hs HsB]
  · isplitl [Hts]; · iexact Hts
    isplitl [Hr]; · iexact Hr
    isplitl [Hs]; · iexact Hs
    iexact HsB
  iintro Hfl
  sl_exec
  iapply (Transfers.wp_waitLocalO countersEmb 𝒱₀ (V d (cV L) (jV L)) none (default : HIx 1) (rfl : (rM).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hts, Hs⟩, HsB, HO⟩
  ihave Ht := (pointsTo_split_subset (q := leaf 5 fullShare (wL L)) (f := tab m d) (S := Finset.univ) (Finset.subset_univ (tK).view.set)).2 $$ [Hts Htr]; · isplitl [Hts] <;> iassumption
  ihave Hr := (Entails.of_eq (show ((rM).view.loc (V d (cV L) (jV L)) ↦[(rM).view.set]{fullShare} _ : sProp 𝕄)
      = (rM).view.loc (V d (cV L) (jV L)) ↦{fullShare} _ by rw [hrs])) $$ Hr
  ihave Hs := (Entails.of_eq (show ((sM).view.loc (V d (cV L) (jV L)) ↦[(sM).view.set]{fullShare} _ : sProp 𝕄)
      = (sM).view.loc (V d (cV L) (jV L)) ↦{fullShare} _ by rw [hss])) $$ Hs
  sl_exec
  sl_step
  have hp : ∀ x, tile_body.sl.dma0_1 m d L hpre fs fr x = zrows m d ((zK L).view.emb x) := by
    intro x
    unfold tile_body.sl.dma0_1
    exact (congrFun (View.read_write_univ (v := (rM).view) fr _) x).trans (gathered_at m d L hpre _ (View.read_write_univ (v := (sM).view) fs _) _ _ x)
  ihave Hz := (Entails.of_eq (pointsTo_congr (landed m d L _ hp))) $$ Hz
  isplitl [Hi Ht Hz]
  · isplitl [Hi]; · iapply (Entails.of_eq (pts_iK (F := F) d L _)); iexact Hi
    isplitl [Ht]; · iexact Ht
    iapply (Entails.of_eq (pts_zK (F := F) d L _))
    iexact Hz
  isplitl [Hs Hr Hbufs]
  · isplitl [Hs]; · iexists _; iexact Hs
    isplitl [Hr]; · iexists _; iexact Hr
    iexact Hbufs
  isplitl [HsA HsB HsC Hsems]
  · isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tM (Memref.isWhole_whole _) iM (Memref.isWhole_whole _) zM (Memref.isWhole_whole _)
          sM (Memref.isWhole_whole _) rM (Memref.isWhole_whole _) cc0_scratch2 cc0_scoped0 cc0_scoped1) ⟨⟩ c s := rfl

omit [FloatOps F] [Named F] in
/-- A wait recorded at no index is one recorded at no index or this call's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task runs, from what its handshake brings to what it takes back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => waits_weaken)

end Tile

/-- A SparseCore's parts are its sixteen tasks' already. -/
theorem vecSplit : (K (F := F)).VecSplit' (P m) 0 := by
  intro d c
  have e : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show (bigSep Finset.univ fun i : Fin 16 => task m d (num (Fin.cast nCore_zero c) i) (m (zLoc d))) ⊢ |={Set.univ}=> iprop(
      (bigSep Finset.univ fun i : Fin ((K (F := F)).nSub 0) => task m d (num (Fin.cast nCore_zero c) (Fin.cast nSub_zero i)) (m (zLoc d)))
      ∗ ((bigSep Finset.univ fun i : Fin ((K (F := F)).nSub 0) => task m d (num (Fin.cast nCore_zero c) (Fin.cast nSub_zero i)) (zrows m d))
          -∗ bigSep Finset.univ fun i : Fin 16 => task m d (num (Fin.cast nCore_zero c) i) (zrows m d)))
  rw [e fun i => task m d (num (Fin.cast nCore_zero c) i) (m (zLoc d)), e fun i => task m d (num (Fin.cast nCore_zero c) i) (zrows m d)]
  iintro H; imodintro
  isplitl [H]; · iexact H
  iintro H; iexact H

/-! ## The whole arrays and the thirty-two tasks' parts -/

omit [FloatOps F] [Named F] in
theorem iPts_parts (d : Dev nD) (f : Buf (Elt F) (iLoc d)) :
    (iLoc d ↦{fullShare} f : sProp 𝕄) = bigSep Finset.univ fun w : Fin 32 => iLoc d ↦[iSet w]{fullShare} f := by
  have e : ∀ w, iSet w = (iRect w).set := fun w => by
    show ((View.whole (main_arg1_scv : Ref sig .scVector)).slice (iRect w)).set = _
    rw [View.set_slice]; exact Finset.map_refl
  rw [← pointsTo_biUnion Finset.univ (ℓ := iLoc d) iSet fun i _ j _ h => by rw [e, e]; exact Rect.part_disjoint ipart h,
    show (Finset.univ : Finset (Fin 32)).biUnion iSet = Finset.univ from (Finset.biUnion_congr rfl fun i _ => e i).trans (Rect.biUnion_part ipart)]

omit [FloatOps F] [Named F] in
theorem zPts_parts (d : Dev nD) (f : Buf (Elt F) (zLoc d)) :
    (zLoc d ↦{fullShare} f : sProp 𝕄) = bigSep Finset.univ fun w : Fin 32 => zLoc d ↦[zSet w]{fullShare} f := by
  have e : ∀ w, zSet w = (zRect w).set := fun w => by
    show ((View.whole (main_v1_scv : Ref sig .scVector)).slice (zRect w)).set = _
    rw [View.set_slice]; exact Finset.map_refl
  rw [← pointsTo_biUnion Finset.univ (ℓ := zLoc d) zSet fun i _ j _ h => by rw [e, e]; exact Rect.part_disjoint zpart h,
    show (Finset.univ : Finset (Fin 32)).biUnion zSet = Finset.univ from (Finset.biUnion_congr rfl fun i _ => e i).trans (Rect.biUnion_part zpart)]

/-- Tile `i` of SparseCore `c` runs task `2 i + c`: each task runs on one tile. -/
def numEquiv : Fin 2 × Fin 16 ≃ Fin 32 where
  toFun p := num p.1 p.2
  invFun w := (⟨w.val % 2, Nat.mod_lt _ (by decide)⟩, ⟨w.val / 2, by omega⟩)
  left_inv p := by obtain ⟨c, i⟩ := p; refine Prod.ext (Fin.ext ?_) (Fin.ext ?_) <;> simp only [num] <;> omega
  right_inv w := Fin.ext (by simp only [num]; omega)

/-- The indices, the table and the rows' array, whole, are all the tasks' parts. -/
theorem tasks_eq (d : Dev nD) (f : Buf (Elt F) (zLoc d)) :
    iprop((iLoc d ↦{fullShare} m (iLoc d)) ∗ (tLoc d ↦{fullShare} tab m d) ∗ (zLoc d ↦{fullShare} f) : sProp 𝕄)
      = bigSep Finset.univ fun c : Fin ((K (F := F)).nCore 0) => bigSep Finset.univ fun i : Fin 16 => task m d (num (Fin.cast nCore_zero c) i) f := by
  have e : ∀ Φ : Fin 2 → sProp 𝕄, (bigSep Finset.univ fun c : Fin ((K (F := F)).nCore 0) => Φ (Fin.cast nCore_zero c)) = bigSep Finset.univ Φ :=
    fun Φ => bigSep_congr fun _ _ => congrArg Φ (Fin.ext rfl)
  rw [e fun c => bigSep Finset.univ fun i : Fin 16 => task m d (num c i) f,
    ← bigSep_univ_prod (fun p : Fin 2 × Fin 16 => task m d (num p.1 p.2) f)]
  refine Eq.trans ?_ (bigSep_univ_equiv numEquiv (fun w : Fin 32 => task m d w f))
  unfold task
  rw [bigSep_sep', bigSep_sep', ← iPts_parts, ← zPts_parts]
  congr 2
  exact pointsTo_leaves Finset.univ (tab m d) 5 fullShare

end Cert.Proof.Ideal

end
-- ==== Proof.Ideal.Block.lean ====
/-
  What one grid point of the TensorCore call computes: the 256 by 2176 block its body stores, as a function of the seven
  blocks it reads, and the body's triple with that block in its post.
-/
module

public import proofs.«01_k».proof.Proof.Ideal.Setup
public import Idealize.ShloMosaic.Lib.WritesUnit
public import Idealize.ShloMosaic.Lib.WholeRead

@[expose] public section

set_option maxRecDepth 16384

noncomputable section

namespace Cert.Proof.Ideal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The block -/

/-- The first 64 of the 128 columns. -/
def cut (x1 : Vec F S256x128 .f32) : Vec F S256x64 .f32 := fun y => x1 (ix2 (y 0) (Fin.castLE (by decide) (y 1)))

/-- The block's first 2048 columns, -/
def low (x0 : Vec F S256x2048 .f32) (x1 : Vec F S256x128 .f32) (x2 : Vec F S256x2 .f32) (x3 : Vec F S2x64 .f32) (x4 : Vec F S1x64 .f32)
    (x5 x6 : Vec F S1x2176 .f32) : Vec F S256x2048 .f32 :=
  k1_pay4 (k1_pay8 x0 (cut x1) x2 x3 x4) (k1_pay10 x0 (cut x1) x2 x3 x4) k1_pay11 x5 x6

/-- its last 128, -/
def high (x0 : Vec F S256x2048 .f32) (x1 : Vec F S256x128 .f32) (x2 : Vec F S256x2 .f32) (x3 : Vec F S2x64 .f32) (x4 : Vec F S1x64 .f32)
    (x5 x6 : Vec F S1x2176 .f32) : Vec F S256x128 .f32 :=
  k1_pay5 (k1_pay9 x0 (cut x1) x2 x3 x4) (k1_pay10 x0 (cut x1) x2 x3 x4) k1_pay11 x5 x6

/-- and the block: what the body leaves in the output's window from the seven blocks it reads. -/
def blockOut (x0 : Vec F S256x2048 .f32) (x1 : Vec F S256x128 .f32) (x2 : Vec F S256x2 .f32) (x3 : Vec F S2x64 .f32) (x4 : Vec F S1x64 .f32)
    (x5 x6 : Vec F S1x2176 .f32) : Vec F S256x2176 .f32 := fun y =>
  if h : (y 1).val < 2048 then low x0 x1 x2 x3 x4 x5 x6 (ix2 (y 0) ⟨(y 1).val, h⟩)
  else high x0 x1 x2 x3 x4 x5 x6 (ix2 (y 0) ⟨(y 1).val - 2048, by have : (y 1).val < 2176 := (y 1).isLt; omega⟩)

/-! ## Loads and stores -/

omit [FloatOps F] [Named F] in
/-- A load of a whole buffer reads its contents. -/
theorem ld_whole {s : Shape} {e : EltTy} {m : Memref sig .tc .vmem s e} (h : m.IsWhole) (X : s.Idx → Elt F e) {off : Fin s.rank → ℕ}
    (inb : ∀ a, off a + s.size a ≤ s.size a) :
    View.readAt (Elt F) m.view (Rect.unit (s := s) off s.size inb).toLoadRect (h.unread X) = X :=
  funext fun y => (h.readAt_unread X _ y).trans (congrArg X (Rect.emb_unit_full inb y))

omit [FloatOps F] [Named F] in
/-- The load of the first 64 columns. -/
theorem ld_cut {m : Memref sig .tc .vmem S256x128 .f32} (h : m.IsWhole) (X : Vec F S256x128 .f32) :
    View.readAt (Elt F) m.view (Rect.unit (s := S256x128) ![0, 0] S256x64.size inb_S256x128_S256x64_0_0).toLoadRect (h.unread X) = cut X := by
  funext y
  refine (h.readAt_unread X _ y).trans (congrArg X ?_)
  funext a; apply Fin.ext
  match a with
  | 0 => exact (ValueKit.rect_emb_unit_val (s := S256x128) ![0, 0] S256x64.size inb_S256x128_S256x64_0_0 y 0).trans (Nat.zero_add _)
  | 1 => exact (ValueKit.rect_emb_unit_val (s := S256x128) ![0, 0] S256x64.size inb_S256x128_S256x64_0_0 y 1).trans (Nat.zero_add _)

/-- The two stores' rectangles tile the window: what it reads back is the block. -/
theorem stored (v : View sig .tc .vmem S256x2176 .f32) (f : v.ty.Contents (Elt F)) (x0 : Vec F S256x2048 .f32) (x1 : Vec F S256x128 .f32)
    (x2 : Vec F S256x2 .f32) (x3 : Vec F S2x64 .f32) (x4 : Vec F S1x64 .f32) (x5 x6 : Vec F S1x2176 .f32)
    (p4 : Vec F S256x2048 .f32) (p5 : Vec F S256x128 .f32) (h4 : p4 = low x0 x1 x2 x3 x4 x5 x6) (h5 : p5 = high x0 x1 x2 x3 x4 x5 x6) :
    v.read (Elt F) (v.writes (Elt F) f
      [⟨Rect.unit (s := S256x2176) ![0, 2048] ![256, 128] inb_S256x2176_S256x128_0_2048, p5⟩,
       ⟨Rect.unit (s := S256x2176) ![0, 0] ![256, 2048] inb_S256x2176_S256x2048_0_0, p4⟩]) = blockOut x0 x1 x2 x3 x4 x5 x6 := by
  subst h4; subst h5
  funext y
  have hy : (y 1).val < 2176 := (y 1).isLt
  unfold blockOut
  split
  · next h =>
    refine (View.read_writes_cons_unit_of_not_mem v f _ _ _ y rfl 1 (.inl h)).trans ?_
    refine View.read_writes_cons_unit_of_mem v f _ _ _ y (ix2 (y 0) ⟨(y 1).val, h⟩) rfl fun a => ?_
    match a with
    | 0 => exact (Nat.zero_add _).symm
    | 1 => exact (Nat.zero_add _).symm
  · next h =>
    refine View.read_writes_cons_unit_of_mem v f _ _ _ y (ix2 (y 0) ⟨(y 1).val - 2048, by omega⟩) rfl fun a => ?_
    match a with
    | 0 => exact (Nat.zero_add _).symm
    | 1 => show (y 1).val = 2048 + ((y 1).val - 2048); omega

/-! ## The body's triple -/

set_option maxHeartbeats 1000000 in
/-- The body at a grid point, on whole buffers: the seven blocks it reads are kept, and the eighth ends at `blockOut` of
    them, whatever it held. -/
theorem body_run (c : Dev nD) (i : grid1.Coords) (arg1 : Memref sig .tc .vmem S256x2048 .f32) (harg1 : arg1.IsWhole) (arg2 : Memref sig .tc .vmem S256x128 .f32) (harg2 : arg2.IsWhole) (arg3 : Memref sig .tc .vmem S256x2 .f32) (harg3 : arg3.IsWhole) (arg4 : Memref sig .tc .vmem S2x64 .f32) (harg4 : arg4.IsWhole) (arg5 : Memref sig .tc .vmem S1x64 .f32) (harg5 : arg5.IsWhole) (arg6 : Memref sig .tc .vmem S1x2176 .f32) (harg6 : arg6.IsWhole) (arg7 : Memref sig .tc .vmem S1x2176 .f32) (harg7 : arg7.IsWhole) (arg8 : Memref sig .tc .vmem S256x2176 .f32) (harg8 : arg8.IsWhole)
    (x0 : Vec F S256x2048 .f32) (x1 : Vec F S256x128 .f32) (x2 : Vec F S256x2 .f32) (x3 : Vec F S2x64 .f32) (x4 : Vec F S1x64 .f32) (x5 : Vec F S1x2176 .f32) (x6 : Vec F S1x2176 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (blockOut x0 x1 x2 x3 x4 x5 x6)) -∗ K ⟨⟩))
          ⊢ wp frame (wpE (defs₀ (F := F)) 𝒱₀ c none) E (cc1__fused_body i arg1 harg1 arg2 harg2 arg3 harg3 arg4 harg4 arg5 harg5 arg6 harg6 arg7 harg7 arg8 harg8) K := by
    simp only [cc1__fused_body_eq_skeleton]; unfold cc1__fused_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    have e1 := ld_whole harg1 x0 inb_S256x2048_S256x2048_0_0
    have e2 := ld_cut harg2 x1
    have e3 := ld_whole harg3 x2 inb_S256x2_S256x2_0_0
    have e4 := ld_whole harg4 x3 inb_S2x64_S2x64_0_0
    have e5 := ld_whole harg5 x4 inb_S1x64_S1x64_0_0
    have e6 := ld_whole harg6 x5 inb_S1x2176_S1x2176_0_0
    have e7 := ld_whole harg7 x6 inb_S1x2176_S1x2176_0_0
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; isplitr
    swap; · iexact H7
    ipureintro
    have er : body_run.sl.r c arg1 harg1 arg2 harg2 arg3 harg3 arg4 harg4 arg5 harg5 x0 x1 x2 x3 x4 = k1_pay8 x0 (cut x1) x2 x3 x4 := by
      unfold body_run.sl.r; exact congr (congr (congr (congr (congrArg k1_pay8 e1) e2) e3) e4) e5
    have er1 : body_run.sl.r_1 c arg1 harg1 arg2 harg2 arg3 harg3 arg4 harg4 arg5 harg5 x0 x1 x2 x3 x4 = k1_pay9 x0 (cut x1) x2 x3 x4 := by
      unfold body_run.sl.r_1; exact congr (congr (congr (congr (congrArg k1_pay9 e1) e2) e3) e4) e5
    have er2 : body_run.sl.r_2 c arg1 harg1 arg2 harg2 arg3 harg3 arg4 harg4 arg5 harg5 x0 x1 x2 x3 x4 = k1_pay10 x0 (cut x1) x2 x3 x4 := by
      unfold body_run.sl.r_2; exact congr (congr (congr (congr (congrArg k1_pay10 e1) e2) e3) e4) e5
    exact stored arg8.view f7 _ _ _ _ _ _ _ _ _ (congr (congr (congr (congrArg₂ k1_pay4 er er2) rfl) e6) e7)
      (congr (congr (congr (congrArg₂ k1_pay5 er1 er2) rfl) e6) e7)

end Cert.Proof.Ideal

end
-- ==== Proof.Ideal.Region.lean ====
/-
  The TensorCore call's region: from the program's arrays at contents `V`, the pipeline's proof data (each input's
  staging buffer at its block of `V`, the output's at the block `blockOut` computes from the seven), the body's
  obligation, and the region as one step of @main with the arrays' final contents in its post.
-/
module

public import proofs.«01_k».proof.Proof.Ideal.Block
public import Idealize.ShloMosaic.Lib.Pipeline.FrameBody
public import Idealize.ShloMosaic.Lib.Pipeline.RegionArrays

@[expose] public section

set_option maxRecDepth 16384

noncomputable section

namespace Cert.Proof.Ideal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf arrRef)

variable {F : FTy → Type} [FloatOps F] [Named F]

local notation "𝕄" => MT nD τ sig (HIx 1) (Elt F) ℕ UU ℕ

/-- Contents of every TensorCore buffer of every device. -/
abbrev Vals (F : FTy → Type) : Type := (c : Dev nD) → (b : Ref sig .tc) → Buf (Elt F) ((c : Thread nD τ).loc b)

variable (V : Vals F)

/-! ## The windows' blocks -/

/-- Window `w`'s block of `V` at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (arrRef spec1 w))

/-- The output's block at point `t`, from the inputs' blocks there. -/
def outsAt (c : Dev nD) (t : Fin cfg1.N) : Vec F S256x2176 .f32 :=
  blockOut (iblk V c 0 t) (iblk V c 1 t) (iblk V c 2 t) (iblk V c 3 t) (iblk V c 4 t) (iblk V c 5 t) (iblk V c 6 t)

/-! ## The pipeline's proof data -/

/-- The pairs a TensorCore's waits may have recorded by the time it has run the SparseCore call: those no later than it. -/
def before1 (c : Dev nD) : Set (SemLoc sig × HIx 1) := {p | (K (F := F)).lev ((c : Thread nD τ), p.1) p.2 ≤ 8 * SparseCore.Cfg.Blocks.fst (Q := 1) (N := 1) 1}

/-- The proof data on core `c`: arrays at `V`, staging buffers at their blocks, nothing owed. -/
def dats (_ : Fin 1) (c : Dev nD) : Dat τ (Elt F) (HIx 1) ℕ UU ℕ cfg1 c where
  A w := V c (arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outsAt V c t
  Φ _ := Pipeline.scopedRest spec1 c
  q _ := fullShare
  owed _ := 0
  recorded _ := before1 (F := F) c

theorem Φ_eq (c : Dev nD) (t : Fin (cfg1.N + 1)) : (dats V 0 c).Φ t = Pipeline.scopedRest spec1 c := by dsimp only [dats]

theorem A_eq (c : Dev nD) (w : Fin cfg1.W) : (dats V 0 c).A w = V c (arrRef spec1 w) := by dsimp only [dats]

theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
theorem after_3 (c : Dev nD) (t : Fin cfg1.N) : (dats V 0 c).after 3 t = iblk V c 3 t := by dsimp only [dats]
theorem after_4 (c : Dev nD) (t : Fin cfg1.N) : (dats V 0 c).after 4 t = iblk V c 4 t := by dsimp only [dats]
theorem after_5 (c : Dev nD) (t : Fin cfg1.N) : (dats V 0 c).after 5 t = iblk V c 5 t := by dsimp only [dats]
theorem after_6 (c : Dev nD) (t : Fin cfg1.N) : (dats V 0 c).after 6 t = iblk V c 6 t := by dsimp only [dats]
theorem after_7 (c : Dev nD) (t : Fin cfg1.N) : (dats V 0 c).after 7 t = outsAt V c t := by dsimp only [dats]

/-! Each input's staging buffer holds its block when the body runs, whether this point or an earlier one fetched it. -/

theorem before_0 (c : Dev nD) (t : Fin cfg1.N) (d) : (dats V 0 c).before 0 t d = iblk V c 0 t :=
  ((dats V 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg1.N) (d) : (dats V 0 c).before 1 t d = iblk V c 1 t :=
  ((dats V 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg1.N) (d) : (dats V 0 c).before 2 t d = iblk V c 2 t :=
  ((dats V 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg1.N) (d) : (dats V 0 c).before 3 t d = iblk V c 3 t :=
  ((dats V 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg1.N) (d) : (dats V 0 c).before 4 t d = iblk V c 4 t :=
  ((dats V 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg1.N) (d) : (dats V 0 c).before 5 t d = iblk V c 5 t :=
  ((dats V 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (c : Dev nD) (t : Fin cfg1.N) (d) : (dats V 0 c).before 6 t d = iblk V c 6 t :=
  ((dats V 0 c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)

/-! ## The body's obligation -/

/-- What the body starts from at point `t`, window by window, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d))
    ∗ (∃ d, owns (c : Thread nD τ) (st1_4 t) fullShare ((dats V 0 c).before 4 t d))
    ∗ (∃ d, owns (c : Thread nD τ) (st1_5 t) fullShare ((dats V 0 c).before 5 t d))
    ∗ (∃ d, owns (c : Thread nD τ) (st1_6 t) fullShare ((dats V 0 c).before 6 t d))
    ∗ (∃ d, owns (c : Thread nD τ) (st1_7 t) fullShare ((dats V 0 c).before 7 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t)
    ∗ owns (c : Thread nD τ) (st1_4 t) fullShare ((dats V 0 c).after 4 t)
    ∗ owns (c : Thread nD τ) (st1_5 t) fullShare ((dats V 0 c).after 5 t)
    ∗ owns (c : Thread nD τ) (st1_6 t) fullShare ((dats V 0 c).after 6 t)
    ∗ owns (c : Thread nD τ) (st1_7 t) fullShare ((dats V 0 c).after 7 t))

set_option maxHeartbeats 800000 in
/-- The body at any point takes the inputs' blocks to the output's. -/
theorem sound_body (c : Dev nD) (t : Fin cfg1.N) :
    bodyPre V c t ⊢ wp frame (wpE (defs₀ (F := F)) 𝒱₀ c none) Set.univ (bodyAt1 t) (fun _ => bodyPost V c t) := by
  unfold bodyPre bodyPost bodyAt1
  simp only [before_0, before_1, before_2, before_3, before_4, before_5, before_6]
  rw [show (dats V 0 c).Φ t.succ = (dats V 0 c).Φ t.castSucc from rfl,
    show (dats V 0 c).owesAt none t.succ = (dats V 0 c).owesAt none t.castSucc from rfl,
    after_0, after_1, after_2, after_3, after_4, after_5, after_6, after_7]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid1.coords t) _ _ _ _ _ _ _ _ _ _ _ _ _ _ _ _ (iblk V c 0 t) (iblk V c 1 t) (iblk V c 2 t) (iblk V c 3 t) (iblk V c 4 t) (iblk V c 5 t) (iblk V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) : defs₀ (F := F) .tc cfg1.body (cfg1.bodyArgs t (cfg1.slots t)) = bodyAt1 t := rfl

/-- The library's body obligation, at every point. -/
theorem body_obligation (c : Dev nD) : BodyObligation (dats (F := F) V 0 c) (defs₀ (F := F)) 𝒱₀ none Set.univ := fun t => by
  rw [bigSep_W1, bigSep_W1, defs₀_row]
  exact triple_restated (sound_body V c t) rfl .rfl fun _ => .rfl

/-! ## The region -/

/-- The arrays the pipeline's windows stage, at contents `G`. -/
def arrs (c : Dev nD) (G : (w : Fin cfg1.W) → Buf (Elt F) (((cfg1.win w).arr.view.loc (c.tc : Thread nD τ)))) : sProp 𝕄 :=
  iprop((((c : Thread nD τ).loc (arrRef spec1 0)) ↦{fullShare} G 0) ∗ (((c : Thread nD τ).loc (arrRef spec1 1)) ↦{fullShare} G 1) ∗ (((c : Thread nD τ).loc (arrRef spec1 2)) ↦{fullShare} G 2) ∗ (((c : Thread nD τ).loc (arrRef spec1 3)) ↦{fullShare} G 3) ∗ (((c : Thread nD τ).loc (arrRef spec1 4)) ↦{fullShare} G 4) ∗ (((c : Thread nD τ).loc (arrRef spec1 5)) ↦{fullShare} G 5) ∗ (((c : Thread nD τ).loc (arrRef spec1 6)) ↦{fullShare} G 6) ∗ (((c : Thread nD τ).loc (arrRef spec1 7)) ↦{fullShare} G 7))

theorem arrays_eq (c : Dev nD) (G : (w : Fin cfg1.W) → Buf (Elt F) (((cfg1.win w).arr.view.loc (c.tc : Thread nD τ)))) :
    ((dats V 0 c).arrays G : sProp 𝕄) = arrs c G := by
  rw [Pipeline.arrays_eq cfgs (dats V) 0 c arr_whole1 ((dats V 0 c).share_full fun _ => rfl) G, bigSep_W1]; rfl

/-- The TensorCore call as a step of @main: from the windows' arrays at `V` and nothing owed, to the arrays at what the
    pipeline leaves and nothing owed. -/
def region : Pipeline.RegionSeg pcfgs (fun p => (cfgs p).toPCfg_adm) (dats V) none (defs₀ (F := F)) 𝒱₀ (K (F := F)).L (K (F := F)).lev 0 where
  win := launch1.win.to₀
  block_pos := block_pos1
  stage_whole := stage_whole1
  K := PEmpty
  osem k := k.elim
  ho := Pipeline.OwnSemFacts.none _
  hbody c := (body_obligation V c).loose
  hwaits c := (by iintro -; iempintro : _ ⊢ (emp : sProp 𝕄)).trans (Pipeline.cellsWaits_of_owed_zero cfgs (dats V) none 0 c fun _ => rfl)
  pre c := iprop(arrs c (fun w => V c (arrRef spec1 w)) ∗ ∃ W, ⌜(K (F := F)).WBelow (c : Thread nD τ) W (8 * SparseCore.Cfg.Blocks.fst (Q := 1) (N := 1) 1)⌝ ∗ owes (c : Thread nD τ) 0 W)
  post c := iprop(arrs c ((dats V 0 c).arrAt · cfg1.N) ∗ ∃ W, ⌜(K (F := F)).WBelow (c : Thread nD τ) W (8 * SparseCore.Cfg.Blocks.fst (Q := 1) (N := 1) 1)⌝ ∗ owes (c : Thread nD τ) 0 W)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iapply (Entails.of_eq (arrays_eq V c _).symm); iexact Ha
    isplitr; · iempintro
    isplitl [HO]
    · iexists W; isplitr; · ipureintro; exact fun p hp => Or.inl (hW p hp)
      iexact HO
    isplitr <;> iempintro
  hin c := (sep_elim_right.trans sep_elim_right).trans (Entails.of_eq (Φ_eq V c 0).symm)
  hout c := by
    rw [Pipeline.ownSems0_none]
    refine (Entails.of_eq (Φ_eq V c _)).trans ?_
    iintro H
    isplitr; · iempintro
    isplitr; · iempintro
    iexact H
  hexit c := by
    iintro ⟨Ha, ⟨%W, %hW, HO⟩, -, -⟩
    imodintro
    isplitl [Ha]; · iapply (Entails.of_eq (arrays_eq V c _)); iexact Ha
    iexists W; isplitr
    · ipureintro
      intro p hp
      rcases hW hp with h | ⟨w, s, h⟩
      · exact h
      · rw [h]; exact Nat.zero_le _
    iexact HO

end Cert.Proof.Ideal

end
-- ==== Proof.Ideal.Host.lean ====
/-
  @main's host operations: the constant, its conversion and the padding before the SparseCore call; the three reshapes
  after it. What every array @main touches holds when the TensorCore call is entered.
-/
module

public import proofs.«01_k».proof.Proof.Ideal.Region

@[expose] public section

noncomputable section

namespace Cert.Proof.Ideal

open Cert.KernelIdeal Cert.KernelIdeal.Gen

open Idealize.ShloMosaic Idealize.ShloMosaic.TcCoe
open Idealize.SL Idealize.SL.Sem

variable {F : FTy → Type} [FloatOps F] [Named F]

/-- The host operations before the SparseCore call, -/
def preOps : List (HloOp τ sig (Elt F)) :=
  [StableHlo.nullary main_c (constantI S_ 32 0#32),
   StableHlo.TRef.unary (StableHlo.TRef.of (T := ⟨S_, .i32⟩) main_c) (StableHlo.TRef.of (T := ⟨S_, .f32⟩) main_call0_v0) (sitofp .f32),
   StableHlo.TRef.binary (StableHlo.TRef.of (T := ⟨S9x64, .f32⟩) main_arg3) (StableHlo.TRef.of (T := ⟨S_, .f32⟩) main_call0_v0)
     (StableHlo.TRef.of (T := ⟨S9x128, .f32⟩) main_v0) (fun x v => pad S9x128 ![0, 0] ![0, 64] ![0, 0] x v pads_S9x64_S9x128_000_0640 h_S_)]

/-- and after it. -/
def postOps : List (HloOp τ sig (Elt F)) :=
  [StableHlo.reshape main_arg5 main_v2 (rfl : (.f32 : EltTy) = .f32) shapeCasts_S64_S1x64,
   StableHlo.reshape main_arg6 main_v3 (rfl : (.f32 : EltTy) = .f32) shapeCasts_S2176_S1x2176,
   StableHlo.reshape main_arg7 main_v4 (rfl : (.f32 : EltTy) = .f32) shapeCasts_S2176_S1x2176]

variable (m : (ℓ : Loc nD τ sig) → Buf (Elt F) ℓ)

/-- A device's buffers when the SparseCore call is made, -/
def V1 (d : Dev nD) : Valuation τ sig (Elt F) := StableHlo.after preOps fun b => m (d, b)
/-- when it returns, the gathered rows in place, -/
def V2 (d : Dev nD) : Valuation τ sig (Elt F) := Function.update (V1 m d) (Proc.devRef .tc main_v1) (zrows m d)
/-- and when the TensorCore call is entered. -/
def V3 (d : Dev nD) : Valuation τ sig (Elt F) := StableHlo.after postOps (V2 m d)
/-- The same, by TensorCore reference. -/
def Vf : Vals F := fun d b => V3 m d (Proc.devRef .tc b)

theorem V1_v0 (d : Dev nD) : V1 m d (Proc.devRef .tc main_v0) = tab m d := by
  unfold V1 preOps
  simp only [StableHlo.TRef.binary, StableHlo.TRef.unary, StableHlo.TRef.toBuf, StableHlo.TRef.ofBuf, cast_eq]
  after_results_simp
  rfl

/-- A buffer no host operation before the call writes is as launched. -/
theorem V1_of (d : Dev nD) (r : Ref sig .tc) (h : r ∉ [main_c, main_call0_v0, main_v0]) : V1 m d (Proc.devRef .tc r) = m ((d : Thread nD τ).loc r) := by
  unfold V1
  refine StableHlo.after_of_writes_sub (W := [main_c, main_call0_v0, main_v0]) _ _ (StableHlo.forall_writes_sub_of_map rfl) h

/-- A buffer neither a host operation nor the SparseCore call writes is as launched. -/
theorem Vf_of (d : Dev nD) (r : Ref sig .tc) (h : r ∉ [main_c, main_call0_v0, main_v0]) (h' : r ∉ [main_v2, main_v3, main_v4]) (h1 : r ≠ main_v1) :
    Vf m d r = m ((d : Thread nD τ).loc r) := by
  unfold Vf V3
  refine (StableHlo.after_of_writes_sub (W := [main_v2, main_v3, main_v4]) _ _ (StableHlo.forall_writes_sub_of_map rfl) h').trans ?_
  unfold V2
  rw [Function.update_of_ne (StableHlo.devRef_ne_of_ne h1)]
  exact V1_of m d r h

theorem Vf_v1 (d : Dev nD) : Vf m d main_v1 = zrows m d := by
  unfold Vf V3
  refine (StableHlo.after_of_writes_sub (W := [main_v2, main_v3, main_v4]) _ _ (StableHlo.forall_writes_sub_of_map rfl) (by decide)).trans ?_
  unfold V2
  exact Function.update_self _ _ _

theorem V2_of (d : Dev nD) (r : Ref sig .tc) (h : r ∉ [main_c, main_call0_v0, main_v0]) (h1 : r ≠ main_v1) :
    V2 m d (Proc.devRef .tc r) = m ((d : Thread nD τ).loc r) := by
  unfold V2
  rw [Function.update_of_ne (StableHlo.devRef_ne_of_ne h1)]
  exact V1_of m d r h

/-- The bias, the scale and the offset as the TensorCore call reads them: one row each. -/
theorem Vf_v2 (d : Dev nD) : Vf m d main_v2 = shapeCast S1x64 (m ((d : Thread nD τ).loc main_arg5)) shapeCasts_S64_S1x64 := by
  unfold Vf V3 postOps
  after_results_simp
  rw [V2_of m d main_arg5 (by decide) (by decide)]
  rfl

theorem Vf_v3 (d : Dev nD) : Vf m d main_v3 = shapeCast S1x2176 (m ((d : Thread nD τ).loc main_arg6)) shapeCasts_S2176_S1x2176 := by
  unfold Vf V3 postOps
  after_results_simp
  rw [V2_of m d main_arg6 (by decide) (by decide)]
  rfl

theorem Vf_v4 (d : Dev nD) : Vf m d main_v4 = shapeCast S1x2176 (m ((d : Thread nD τ).loc main_arg7)) shapeCasts_S2176_S1x2176 := by
  unfold Vf V3 postOps
  after_results_simp
  rw [V2_of m d main_arg7 (by decide) (by decide)]
  rfl

theorem preOps_fresh : ∀ op ∈ (preOps : List (HloOp τ sig (Elt F))), op.fresh = ∅ := by
  unfold preOps; intro op h; simp only [List.mem_cons, List.not_mem_nil, or_false] at h
  rcases h with rfl | rfl | rfl <;> rfl
theorem postOps_fresh : ∀ op ∈ (postOps : List (HloOp τ sig (Elt F))), op.fresh = ∅ := by
  unfold postOps; intro op h; simp only [List.mem_cons, List.not_mem_nil, or_false] at h
  rcases h with rfl | rfl | rfl <;> rfl

end Cert.Proof.Ideal

end
-- ==== Proof.Ideal.Run.lean ====
/-
  The whole program's run: the host's padding, the SparseCore call, the host's reshapes, the TensorCore call. On every
  device, from any memory whose zone indices are below nine, it terminates with the output at what the pipeline leaves,
  the arguments unchanged and every semaphore at zero.
-/
module

public import proofs.«01_k».proof.Proof.Ideal.Gather
public import proofs.«01_k».proof.Proof.Ideal.Host
public import Idealize.ShloMosaic.Lib.Pipeline.Frame

@[expose] public section

noncomputable section

namespace Cert.Proof.Ideal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat arrRef)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element of the ghost state -/

/-- The handshakes' rounds at the start, and the pipeline's. -/
def u₀ : UU := (initOf (K (F := F)).hsCells (K (F := F)).hsToks, (initOf (Pipeline.cells cfgs cellOf_inj) (Pipeline.launchToks cfgs cellOf_inj), 1))

/-- What a device's TensorCore keeps of it for its pipeline. -/
def ghost (d : Dev nD) : sProp 𝕄 := iprop(Pipeline.cellsGhost cfgs (EP (F := F)) 0 d ∗ Pipeline.toksInit cfgs (EP (F := F)) 0 d)

theorem fund_pipe : BI.own (embR ((initOf (Pipeline.cells cfgs cellOf_inj) (Pipeline.launchToks cfgs cellOf_inj), 1) : UP × Counters))
    ⊢ (iprop(|==> bigSep Finset.univ fun d : Dev nD => ghost (F := F) d) : sProp 𝕄) := by
  have h1 : BI.own (embR ((initOf (Pipeline.cells cfgs cellOf_inj) (Pipeline.launchToks cfgs cellOf_inj), 1) : UP × Counters))
      ⊢ (BI.own (EP (F := F) (initOf (Pipeline.cells cfgs cellOf_inj) (Pipeline.launchToks cfgs cellOf_inj))) : sProp 𝕄) := .rfl
  refine h1.trans ((Pipeline.fund_ghost (cfgs := cfgs) (ER := EP (F := F)) (hinj := cellOf_inj)).trans (bupd_mono ?_))
  unfold ghost
  rw [bigSep_sep']
  refine sep_mono (bigSep_mono fun d _ => ?_) (bigSep_mono fun d _ => ?_)
  · exact Entails.of_eq (bigSep_univ_of_subsingleton (0 : Fin 1))
  · exact Entails.of_eq (bigSep_univ_of_subsingleton (0 : Fin 1))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  imod (fund_pipe (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep (Finset.univ : Finset (Thread nD τ)) fun _ => iprop(emp) : sProp 𝕄) = iprop(emp) from bigSep_emp_const _]
  iempintro

/-! ## The buffers around the SparseCore call -/

/-- The arrays the SparseCore call touches. -/
def scRefs : Finset (DevRef τ sig) := {Proc.devRef .tc main_arg1, Proc.devRef .tc main_v0, Proc.devRef .tc main_v1}

theorem scRefs_sub : scRefs ⊆ Pipeline.ucRefs τ sig := by decide

theorem held_sc (d : Dev nD) (W : Valuation τ sig (Elt F)) :
    (StableHlo.held (d.tc : Thread nD τ) scRefs W : sProp 𝕄)
      = iprop((iLoc d ↦{fullShare} W (Proc.devRef .tc main_arg1)) ∗ (tLoc d ↦{fullShare} W (Proc.devRef .tc main_v0)) ∗ (zLoc d ↦{fullShare} W (Proc.devRef .tc main_v1))) := by
  unfold StableHlo.held scRefs
  rw [SparseCore.bigSep_insert' (by decide), SparseCore.bigSep_insert' (by decide), bigSep_singleton]

theorem V1_arg1 (d : Dev nD) : V1 m d (Proc.devRef .tc main_arg1) = m (iLoc d) := V1_of m d main_arg1 (by decide)
theorem V1_v1 (d : Dev nD) : V1 m d (Proc.devRef .tc main_v1) = m (zLoc d) := V1_of m d main_v1 (by decide)

/-- Before the call: the indices, the table, the rows' array as launched; and the rest. -/
theorem held_before (d : Dev nD) :
    (StableHlo.held (d.tc : Thread nD τ) (Pipeline.ucRefs τ sig) (V1 m d) : sProp 𝕄)
      = iprop((bigSep Finset.univ fun c : Fin ((K (F := F)).nCore 0) => (P m).st 0 d c) ∗ StableHlo.held (d.tc : Thread nD τ) (Pipeline.ucRefs τ sig \ scRefs) (V1 m d)) := by
  rw [StableHlo.held_sub_split _ scRefs_sub, held_sc, V1_arg1, V1_v0, V1_v1, tasks_eq]; rfl

/-- After it: the same with the rows gathered. -/
theorem held_after (d : Dev nD) :
    (StableHlo.held (d.tc : Thread nD τ) (Pipeline.ucRefs τ sig) (V2 m d) : sProp 𝕄)
      = iprop((bigSep Finset.univ fun c : Fin ((K (F := F)).nCore 0) => (P m).dn 0 d c) ∗ StableHlo.held (d.tc : Thread nD τ) (Pipeline.ucRefs τ sig \ scRefs) (V1 m d)) := by
  have e1 : V2 m d (Proc.devRef .tc main_arg1) = m (iLoc d) := V2_of m d main_arg1 (by decide) (by decide)
  have e2 : V2 m d (Proc.devRef .tc main_v0) = tab m d := by
    unfold V2; rw [Function.update_of_ne (StableHlo.devRef_ne_of_ne (by decide))]; exact V1_v0 m d
  have e3 : V2 m d (Proc.devRef .tc main_v1) = zrows m d := by unfold V2; exact Function.update_self _ _ _
  have e4 : (StableHlo.held (d.tc : Thread nD τ) (Pipeline.ucRefs τ sig \ scRefs) (V2 m d) : sProp 𝕄)
      = StableHlo.held (d.tc : Thread nD τ) (Pipeline.ucRefs τ sig \ scRefs) (V1 m d) :=
    StableHlo.held_congr _ fun b hb => by
      unfold V2
      refine Function.update_of_ne (fun h => ?_) _ _
      subst h
      exact (Finset.mem_sdiff.mp hb).2 (by decide)
  rw [StableHlo.held_sub_split _ scRefs_sub, held_sc, e1, e2, e3, e4, tasks_eq]; rfl

theorem preOps_sub : ∀ op ∈ (preOps : List (HloOp τ sig (Elt F))), op.bufs ⊆ Pipeline.ucRefs τ sig := by
  unfold preOps; intro op h; simp only [List.mem_cons, List.not_mem_nil, or_false] at h
  rcases h with rfl | rfl | rfl
  · exact Pipeline.sub_ucRefs _ (StableHlo.nullary_bufs_sub ..)
  · exact Pipeline.sub_ucRefs _ (StableHlo.unary_bufs_sub ..)
  · exact Pipeline.sub_ucRefs _ (StableHlo.binary_bufs_sub ..)
theorem postOps_sub : ∀ op ∈ (postOps : List (HloOp τ sig (Elt F))), op.bufs ⊆ Pipeline.ucRefs τ sig := by
  unfold postOps; intro op h; simp only [List.mem_cons, List.not_mem_nil, or_false] at h
  rcases h with rfl | rfl | rfl
  · exact Pipeline.sub_ucRefs _ (StableHlo.reshape_bufs_sub ..)
  · exact Pipeline.sub_ucRefs _ (StableHlo.reshape_bufs_sub ..)
  · exact Pipeline.sub_ucRefs _ (StableHlo.reshape_bufs_sub ..)

/-! ## @main on the TensorCore -/

/-- The TensorCore call, in the pipeline's own labels. -/
def tcCall : Prog (TpuEff nD τ sig (Elt F) (ΛP (F := F)) .tc) PUnit := .op (.customCall (Pipeline.entry 0) ()) fun _ => .ret ⟨⟩

/-- @main is: host operations, the SparseCore call, host operations, the TensorCore call. -/
theorem main_eq (d : Dev nD) : main (F := F) d
    = (StableHlo.seq preOps >>= fun _ => (K (F := F)).run d 0 >>= fun _ => StableHlo.seq postOps >>= fun _ => SparseCore.liftProg tcCall) := rfl

/-- What the TensorCore call leaves in the output. -/
def result (d : Dev nD) : Buf (Elt F) ((d : Thread nD τ).loc main_v5) := (dats (Vf m) 0 d).arrAt 7 cfg1.N

/-- What is left at the end: the arguments as launched, the output. -/
def FIN (d : Dev nD) : sProp 𝕄 :=
  iprop((((d : Thread nD τ).loc main_arg0) ↦{fullShare} m ((d : Thread nD τ).loc main_arg0))
    ∗ (((d : Thread nD τ).loc main_arg1) ↦{fullShare} m ((d : Thread nD τ).loc main_arg1))
    ∗ (((d : Thread nD τ).loc main_arg2) ↦{fullShare} m ((d : Thread nD τ).loc main_arg2))
    ∗ (((d : Thread nD τ).loc main_arg3) ↦{fullShare} m ((d : Thread nD τ).loc main_arg3))
    ∗ (((d : Thread nD τ).loc main_arg4) ↦{fullShare} m ((d : Thread nD τ).loc main_arg4))
    ∗ (((d : Thread nD τ).loc main_arg5) ↦{fullShare} m ((d : Thread nD τ).loc main_arg5))
    ∗ (((d : Thread nD τ).loc main_arg6) ↦{fullShare} m ((d : Thread nD τ).loc main_arg6))
    ∗ (((d : Thread nD τ).loc main_arg7) ↦{fullShare} m ((d : Thread nD τ).loc main_arg7))
    ∗ (((d : Thread nD τ).loc main_v5) ↦{fullShare} result m d))

/-- The buffers when the TensorCore call is entered: its windows' arrays and the others. -/
theorem held_region (d : Dev nD) :
    (StableHlo.held (d.tc : Thread nD τ) (Pipeline.ucRefs τ sig) (V3 m d) : sProp 𝕄)
      = iprop(arrs d (fun w => Vf m d (arrRef spec1 w)) ∗ Pipeline.unscopedRest spec1 d (Vf m d)) := by
  have h := Pipeline.unscopedBufs_held (Ix := HIx 1) (Name := ℕ) (U := UU) (Lvl := ℕ) d (V3 m d)
  refine h.symm.trans ((Pipeline.unscopedBufs_split (Ix := HIx 1) (Name := ℕ) (U := UU) (Lvl := ℕ) cfgs 0 winFacts1.arr_unscoped winFacts1.arr_inj d (Vf m d)).trans ?_)
  exact congrArg (fun X : sProp 𝕄 => iprop(X ∗ Pipeline.unscopedRest spec1 d (Vf m d))) (bigSep_W1 _)

/-- An input window's array is as launched at the end, if neither a host operation nor the SparseCore call writes it. -/
theorem arrAt_of (d : Dev nD) (w : Fin cfg1.W) (hin : (cfg1.win w).isOut = false)
    (h : arrRef spec1 w ∉ [main_c, main_call0_v0, main_v0]) (h' : arrRef spec1 w ∉ [main_v2, main_v3, main_v4]) (h1 : arrRef spec1 w ≠ main_v1) :
    (dats (Vf m) 0 d).arrAt w cfg1.N = m ((d : Thread nD τ).loc (arrRef spec1 w)) := by
  rw [Dat.arrAt_in _ w hin, A_eq]; exact Vf_of m d _ h h' h1

/-- After the TensorCore call: what is left at the end. -/
theorem fin_of (d : Dev nD) :
    iprop(arrs d ((dats (Vf m) 0 d).arrAt · cfg1.N) ∗ Pipeline.unscopedRest spec1 d (Vf m d)) ⊢ (FIN m d : sProp 𝕄) := by
  unfold arrs FIN
  dsimp only
  rw [unscopedRest1_eq,
    arrAt_of m d 0 rfl (by decide) (by decide) (by decide), arrAt_of m d 2 rfl (by decide) (by decide) (by decide),
    arrAt_of m d 3 rfl (by decide) (by decide) (by decide),
    Vf_of m d main_arg1 (by decide) (by decide) (by decide), Vf_of m d main_arg3 (by decide) (by decide) (by decide),
    Vf_of m d main_arg5 (by decide) (by decide) (by decide), Vf_of m d main_arg6 (by decide) (by decide) (by decide),
    Vf_of m d main_arg7 (by decide) (by decide) (by decide)]
  iintro ⟨⟨H0, -, H2, H4, -, -, -, Ho⟩, H1, H3, H5, H6, H7, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Ho

/-- The TensorCore has nothing left to owe after the SparseCore call. -/
def settled (d : Dev nD) : sProp 𝕄 :=
  iprop(∃ W, ⌜(K (F := F)).WBelow (d : Thread nD τ) W (8 * SparseCore.Cfg.Blocks.fst (Q := 1) (N := 1) 1)⌝ ∗ owes (d : Thread nD τ) 0 W)

theorem region_pre (d : Dev nD) : (region (Vf m)).pre d = (iprop(arrs d (fun w => Vf m d (arrRef spec1 w)) ∗ settled (F := F) d) : sProp 𝕄) := by
  dsimp only [region, settled]
theorem region_post (d : Dev nD) : (region (Vf m)).post d = (iprop(arrs d ((dats (Vf m) 0 d).arrAt · cfg1.N) ∗ settled (F := F) d) : sProp 𝕄) := by
  dsimp only [region, settled]

/-- The TensorCore call's run. -/
theorem tcCall_run [∀ e, Nonempty (Elt F e)] (d : Dev nD) (Q : PUnit → sProp 𝕄) :
    iprop((iprop(boundary (d.tc : Thread nD τ) ∗ arrs d ((dats (Vf m) 0 d).arrAt · cfg1.N) ∗ settled (F := F) d) -∗ Q ⟨⟩)
        ∗ boundary (d.tc : Thread nD τ) ∗ (arrs d (fun w => Vf m d (arrRef spec1 w)) ∗ settled (F := F) d) ∗ levAts (K (F := F)).L (K (F := F)).lev ∗ ghost (F := F) d)
      ⊢ wp frame (wpE ((K (F := F)).defs (D (F := F))) 𝒱 (SparseCore.T d) none) Set.univ (SparseCore.liftProg (tcCall (F := F))) Q := by
  refine BI.Entails.trans ?_ ((K (F := F)).wp_liftProg (D (F := F)) 𝒱 (SparseCore.T d) Set.univ none tcCall Q)
  have hR := Pipeline.RegionSeg.wp pcfgs (fun p => (cfgs p).toPCfg_adm) (dats (Vf m)) none cellOf_inj (EP (F := F)) (defs₀ (F := F)) 𝒱₀
    (K (F := F)).L (K (F := F)).lev (region (Vf m)) d none (fun u hu => by cases hu) (fun _ => .ret ⟨⟩) Q
  rw [region_pre, region_post] at hR
  have h : iprop((iprop(boundary (d.tc : Thread nD τ) ∗ arrs d ((dats (Vf m) 0 d).arrAt · cfg1.N) ∗ settled (F := F) d) -∗ Q ⟨⟩)
        ∗ boundary (d.tc : Thread nD τ) ∗ (arrs d (fun w => Vf m d (arrRef spec1 w)) ∗ settled (F := F) d) ∗ levAts (K (F := F)).L (K (F := F)).lev ∗ ghost (F := F) d)
      ⊢ (iprop((iprop(boundary (d.tc : Thread nD τ) ∗ arrs d ((dats (Vf m) 0 d).arrAt · cfg1.N) ∗ settled (F := F) d)
            -∗ wp frame (wpE (Pipeline.defs pcfgs (defs₀ (F := F))) 𝒱₀.lift (d.tc : Thread nD τ) none) Set.univ (.ret ⟨⟩) Q)
        ∗ boundary (d.tc : Thread nD τ) ∗ (arrs d (fun w => Vf m d (arrRef spec1 w)) ∗ settled (F := F) d) ∗ levAts (K (F := F)).L (K (F := F)).lev
        ∗ Pipeline.cellsGhost cfgs (EP (F := F)) 0 d ∗ Pipeline.toksInit cfgs (EP (F := F)) 0 d) : sProp 𝕄) := by
    unfold ghost
    iintro ⟨Hk, Hb, Hpre, Hl, HG⟩
    isplitl [Hk]
    · iintro H; rw [wp_ret]; imodintro; iapply Hk; iexact H
    isplitl [Hb]; · iexact Hb
    isplitl [Hpre]; · iexact Hpre
    isplitl [Hl]; · iexact Hl
    iexact HG
  exact h.trans hR

theorem before_entails (d : Dev nD) :
    (StableHlo.held (d.tc : Thread nD τ) (Pipeline.ucRefs τ sig) (StableHlo.after preOps fun b => m (d, b)) : sProp 𝕄)
      ⊢ iprop((bigSep Finset.univ fun c : Fin ((K (F := F)).nCore 0) => (P m).st 0 d c) ∗ StableHlo.held (d.tc : Thread nD τ) (Pipeline.ucRefs τ sig \ scRefs) (V1 m d)) :=
  Entails.of_eq (held_before m d)
theorem region_entails (d : Dev nD) :
    (StableHlo.held (d.tc : Thread nD τ) (Pipeline.ucRefs τ sig) (StableHlo.after postOps (V2 m d)) : sProp 𝕄)
      ⊢ iprop(arrs d (fun w => Vf m d (arrRef spec1 w)) ∗ Pipeline.unscopedRest spec1 d (Vf m d)) :=
  Entails.of_eq (held_region m d)

/-- @main on a device's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) (Pipeline.ucRefs τ sig) (fun b => m (d, b))
    from Pipeline.unscopedBufs_held (Ix := HIx 1) (Name := ℕ) (U := UU) (Lvl := ℕ) d (fun b => m (d, b))]
  iintro ⟨#Hctx, Hst, ⟨Hb, Hbufs, Hts, -⟩, HG⟩
  iapply (StableHlo.wp_seq (Val := Elt F) 𝒱 none Set.univ d (Pipeline.ucRefs τ sig) _ preOps preOps_sub preOps_fresh (fun b => m (d, b))) $$ [Hb Hbufs]
  · isplitl [Hb] <;> iassumption
  iintro ⟨Hb, Hbufs⟩
  ihave Hbufs := (before_entails m d) $$ Hbufs
  icases Hbufs with ⟨Hin, Hrest⟩
  rw [wp_bind]
  iapply ((K (F := F)).wp_run (D (F := F)) 𝒱 (EH := EH) (P := P m) κ d 0) $$ [Hst Hin Hrest Hb Hts HG]
  isplitr; · iexact Hctx
  isplitl [Hst]; · iexact Hst
  isplitl [Hin]; · iexact Hin
  iintro ⟨Hst, Hdn⟩
  ihave Hbufs := (Entails.of_eq (held_after m d).symm) $$ [Hdn Hrest]
  · isplitl [Hdn] <;> iassumption
  iapply (StableHlo.wp_seq (Val := Elt F) 𝒱 none Set.univ d (Pipeline.ucRefs τ sig) _ postOps postOps_sub postOps_fresh (V2 m d)) $$ [Hb Hbufs]
  · isplitl [Hb] <;> iassumption
  iintro ⟨Hb, Hbufs⟩
  ihave Hbufs := (region_entails m d) $$ Hbufs
  icases Hbufs with ⟨Harr, Hrest⟩
  unfold SparseCore.Cfg.tcSt
  icases Hst with ⟨⟨%W, %hW, HO⟩, Htc⟩
  rw [show (K (F := F)).Otc d ((0 : Fin 1).val + 1) = 0 from (K (F := F)).Otc_end d (le_refl 1), show (K (F := F)).Otc d 1 = 0 from (K (F := F)).Otc_end d (le_refl 1)]
  iapply (tcCall_run m d _)
  unfold settled
  isplitl [Hrest Hts Htc]
  · iintro ⟨Hb, Ha, HO⟩
    isplitl [HO Htc]
    · isplitl [HO]; · iexact HO
      iexact Htc
    isplitl [Ha Hrest]
    · iapply (fin_of m d)
      isplitl [Ha]; · iexact Ha
      iexact Hrest
    isplitl [Hb] <;> iassumption
  isplitl [Hb]; · iexact Hb
  isplitl [Harr HO]
  · isplitl [Harr]; · iexact Harr
    iexists W; isplitr
    · ipureintro; exact hW
    iexact HO
  isplitr; · iapply (SparseCore.Cfg.ctx_levAts κ); iexact Hctx
  iexact HG

end Cert.Proof.Ideal

end
-- ==== Proof.Ideal.Whole.lean ====
/-
  The program's run from launch to end, by the SparseCore launch theorem: it terminates, the output holds what the
  pipeline leaves, the arguments are unchanged, every semaphore is at zero.
-/
module

public import proofs.«01_k».proof.Proof.Ideal.Run

@[expose] public section

noncomputable section

namespace Cert.Proof.Ideal

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- What holds of a device's arrays at the end. -/
def fq (d : Dev nD) (s' : Phys nD τ sig (Elt F)) : Prop :=
  s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)
    ∧ s'.mem.mem ((d : Thread nD τ).loc main_arg6) = m ((d : Thread nD τ).loc main_arg6)
    ∧ s'.mem.mem ((d : Thread nD τ).loc main_arg7) = m ((d : Thread nD τ).loc main_arg7)
    ∧ s'.mem.mem ((d : Thread nD τ).loc main_v5) = result m d

/-- An array held whole at `f` is `f` in memory. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8⟩, HS⟩
  ihave HS := (agree s' _ _) $$ [HS H0]
  · isplitl [HS] <;> iassumption
  icases HS with ⟨%h0, HS⟩
  ihave HS := (agree s' _ _) $$ [HS H1]
  · isplitl [HS] <;> iassumption
  icases HS with ⟨%h1, HS⟩
  ihave HS := (agree s' _ _) $$ [HS H2]
  · isplitl [HS] <;> iassumption
  icases HS with ⟨%h2, HS⟩
  ihave HS := (agree s' _ _) $$ [HS H3]
  · isplitl [HS] <;> iassumption
  icases HS with ⟨%h3, HS⟩
  ihave HS := (agree s' _ _) $$ [HS H4]
  · isplitl [HS] <;> iassumption
  icases HS with ⟨%h4, HS⟩
  ihave HS := (agree s' _ _) $$ [HS H5]
  · isplitl [HS] <;> iassumption
  icases HS with ⟨%h5, HS⟩
  ihave HS := (agree s' _ _) $$ [HS H6]
  · isplitl [HS] <;> iassumption
  icases HS with ⟨%h6, HS⟩
  ihave HS := (agree s' _ _) $$ [HS H7]
  · isplitl [HS] <;> iassumption
  icases HS with ⟨%h7, HS⟩
  ihave HS := (agree s' _ _) $$ [HS H8]
  · isplitl [HS] <;> iassumption
  icases HS with ⟨%h8, HS⟩
  ipureintro; exact ⟨h0, h1, h2, h3, h4, h5, h6, h7, h8⟩

/-- At the end: on every device the output and the arguments, and every semaphore at zero. -/
def QC : PUnit × MemSt nD τ sig (Elt F) → Prop := fun r => (∀ d : Dev nD,
  r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7)
    ∧ r.2.mem ((d : Thread nD τ).loc main_v5) = result m d) ∧ r.2.sem = fun _ => 0

/-- The program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghost (F := F) d) (FIN m) (u₀ (F := F)) (sep_elim_left.trans (hu₀ m)) (hmain m ρ) (fq m) (hfin m) (QC m) (fun _ h hz => ⟨h, hz⟩)

end Cert.Proof.Ideal

end
-- ==== Proof.Spec.lean ====
/-
  The row that both programs compute, over the extended reals: the features of a row (three pieces side by side), their
  mean and variance over the 2176 columns, and the normalized, scaled and shifted row; and the laws that join the two
  ways of writing it: a quotient by a square root as a product with the reciprocal root, a quotient by 2176 as a product
  with its reciprocal, and a sum over the columns as a sum over the first 2048 and a sum over the last 128.
-/
module

public import Idealize.ShloMosaic.PureOps.Ideal.Laws
public import Idealize.ShloMosaic.Lib.Pointwise

@[expose] public section

noncomputable section

namespace Cert.Proof

open Idealize.ShloMosaic

/-- A row's features: 2048 image features, 64 of the zone's embedding, 64 of the month's. -/
def feat (a : Fin 2048 → EReal) (z p : Fin 64 → EReal) (k : Fin 2176) : EReal :=
  if h : k.val < 2048 then a ⟨k.val, h⟩
  else if h' : k.val - 2048 < 64 then z ⟨k.val - 2048, h'⟩
  else p ⟨k.val - 2048 - 64, by omega⟩

/-- The month's embedding: a product of length two, a bias, and the positive part. -/
def monthEmb (x : Fin 2 → EReal) (w : Fin 2 → Fin 64 → EReal) (b : Fin 64 → EReal) (k : Fin 64) : EReal :=
  max (x 0 * w 0 k + x 1 * w 1 k + b k) 0

/-- The reciprocal of the number of columns. -/
def invD : EReal := ((1 / 2176 : ℝ) : EReal)

/-- The constant added to the variance. -/
def eps : EReal := Ideal.ofBits .f32 0x3727C5AC#32

/-- The mean of a row. -/
def mean (f : Fin 2176 → EReal) : EReal := (∑ k, f k) * invD

/-- The variance of a row: the mean of the squared deviations. -/
def var (f : Fin 2176 → EReal) : EReal := (∑ k, (f k - mean f) * (f k - mean f)) * invD

/-- The row normalized, scaled by `g` and shifted by `o`. -/
def normed (f g o : Fin 2176 → EReal) (k : Fin 2176) : EReal :=
  (f k - mean f) * Ideal.rsqrt (var f + eps) * g k + o k

/-- The whole result as an array: row `b` is the normalized row of the features that row `b` of the arguments gives. -/
def out (X : (⟨2, ![16384, 2048]⟩ : Shape).Idx → EReal) (I : (⟨1, ![16384]⟩ : Shape).Idx → BitVec 32)
    (P : (⟨2, ![16384, 2]⟩ : Shape).Idx → EReal) (T : (⟨2, ![9, 64]⟩ : Shape).Idx → EReal) (W : (⟨2, ![2, 64]⟩ : Shape).Idx → EReal)
    (B : (⟨1, ![64]⟩ : Shape).Idx → EReal) (g o : (⟨1, ![2176]⟩ : Shape).Idx → EReal) : (⟨2, ![16384, 2176]⟩ : Shape).Idx → EReal := fun y =>
  normed (feat (fun j => X (ix2 (y 0) j)) (fun j => T (ix2 ⟨(I (ix1 (y 0))).toNat % 9, Nat.mod_lt _ (by decide)⟩ j))
      (monthEmb (fun i => P (ix2 (y 0) i)) (fun i j => W (ix2 i j)) fun j => B (ix1 j)))
    (fun j => g (ix1 j)) (fun j => o (ix1 j)) (y 1)

/-- The added constant is a positive real. -/
theorem eps_pos : ∃ r : ℝ, 0 < r ∧ eps = (r : EReal) := by
  refine ⟨_, ?_, by simp only [eps, Ideal.ofBits, Ideal.ieee]; simp [-EReal.coe_mul]; rfl⟩
  norm_num

/-- The pattern of 2176 is the number 2176. -/
theorem ofBits_width : Ideal.ofBits .f32 0x45080000#32 = ((2176 : ℝ) : EReal) := by
  simp [Ideal.ofBits, Ideal.ieee, -EReal.coe_mul]; norm_num

/-- A quotient by 2176 is a product with its reciprocal. -/
theorem div_width (x : EReal) : Ideal.div x (Ideal.ofBits .f32 0x45080000#32) = x * invD := by
  rw [ofBits_width, Ideal.div_coe (by norm_num)]; rfl

/-- A square is not negative, at the infinities too. -/
theorem sq_nonneg' (x : EReal) : 0 ≤ x * x := by
  induction x with
  | bot => simp
  | top => simp
  | coe r => rw [← EReal.coe_mul]; exact_mod_cast mul_self_nonneg r

/-- A variance is not negative. -/
theorem var_nonneg (f : Fin 2176 → EReal) : 0 ≤ var f := by
  unfold var invD
  refine mul_nonneg (Finset.sum_nonneg fun k _ => sq_nonneg' _) ?_
  exact_mod_cast (by norm_num : (0 : ℝ) ≤ 1 / 2176)

/-- What the root is taken of is positive. -/
theorem var_eps_pos (f : Fin 2176 → EReal) : 0 < var f + eps := by
  obtain ⟨r, hr, he⟩ := eps_pos
  rw [he]
  have h1 : (0 : EReal) < (r : EReal) := by exact_mod_cast hr
  exact h1.trans_le (le_add_of_nonneg_left (var_nonneg f))

/-- A quotient by the root of a positive number is a product with its reciprocal root. -/
theorem div_sqrt (x s : EReal) (h : 0 < s) : Ideal.div x (Ideal.sqrt s) = x * Ideal.rsqrt s := by
  induction s with
  | bot => exact absurd h (by simp)
  | top => simp [Ideal.div]
  | coe r =>
    have hr : 0 < r := by exact_mod_cast h
    have hs : Real.sqrt r ≠ 0 := (Real.sqrt_pos.2 hr).ne'
    rw [Ideal.sqrt_coe, Ideal.rsqrt_coe, if_neg hr.not_gt, if_neg hr.not_gt, if_neg hr.ne', Ideal.div_coe hs, one_div]

/-- A sum over the columns, cut at column 2048. -/
theorem sum_columns (f : Fin 2176 → EReal) :
    ∑ k, f k = ∑ k : Fin 2048, f ⟨k.val, by omega⟩ + ∑ k : Fin 128, f ⟨2048 + k.val, by omega⟩ :=
  Fin.sum_univ_add (a := 2048) (b := 128) f

end Cert.Proof

end
-- ==== Proof.Ideal.Row.lean ====
/-
  The block that one grid point stores, over the extended reals: row `r` of it is the normalized row of `Spec` from row
  `r` of the blocks that the point reads.
-/
module

public import proofs.«01_k».proof.Proof.Ideal.Block
public import proofs.«01_k».proof.Proof.Spec

@[expose] public section

set_option maxRecDepth 16384

noncomputable section

namespace Cert.Proof.Ideal

open Cert.KernelIdeal Cert.KernelIdeal.Gen
open Idealize.ShloMosaic

variable (x0 : Vec Idealize.ShloMosaic.Ideal S256x2048 .f32) (x1 : Vec Idealize.ShloMosaic.Ideal S256x128 .f32) (x2 : Vec Idealize.ShloMosaic.Ideal S256x2 .f32)
  (x3 : Vec Idealize.ShloMosaic.Ideal S2x64 .f32) (x4 : Vec Idealize.ShloMosaic.Ideal S1x64 .f32) (x5 x6 : Vec Idealize.ShloMosaic.Ideal S1x2176 .f32) (r : Fin 256)

/-- Row `r`'s features, from the blocks. -/
def rowFeat : Fin 2176 → EReal :=
  feat (fun j => x0 (ix2 r j)) (fun j => x1 (ix2 r (Fin.castLE (by decide) j)))
    (monthEmb (fun i => x2 (ix2 r i)) (fun i j => x3 (ix2 i j)) (fun j => x4 (ix2 0 j)))

/-- The constant `inv_d` stands for the reciprocal of the number of columns. -/
theorem named_invD : Named.named (F := Idealize.ShloMosaic.Ideal) κ "inv_d" (φ := .f32) 0x39F0F0F1#32 = invD := rfl

/-- The block's own last columns are the features from column 2048 on. -/
theorem pay6_eq (k : Fin 128) :
    k1_pay6 (cut x1) x2 x3 x4 (ix2 r k) = rowFeat x0 x1 x2 x3 x4 r ⟨2048 + k.val, by omega⟩ := by
  unfold rowFeat feat monthEmb
  rw [dif_neg (by simp)]
  simp only [Nat.add_sub_cancel_left]
  pointwise [k1_pay6, cut]

/-- The image's columns are the features before column 2048. -/
theorem rowFeat_low (k : Fin 2048) : rowFeat x0 x1 x2 x3 x4 r ⟨k.val, by omega⟩ = x0 (ix2 r k) := by
  unfold rowFeat feat
  rw [dif_pos k.isLt]

/-- The mean the block computes is the mean of the row's features. -/
theorem pay7_eq : k1_pay7 x0 (cut x1) x2 x3 x4 (ix2 r 0) = mean (rowFeat x0 x1 x2 x3 x4 r) := by
  have h : k1_pay7 x0 (cut x1) x2 x3 x4 (ix2 r 0)
      = (∑ x, x0 (ix2 r x) + ∑ x, k1_pay6 (cut x1) x2 x3 x4 (ix2 r x)) * Named.named (F := Idealize.ShloMosaic.Ideal) κ "inv_d" (φ := .f32) 0x39F0F0F1#32 := by
    pointwise [k1_pay7]
  rw [h, named_invD]
  unfold mean
  rw [sum_columns]
  simp only [rowFeat_low, pay6_eq x0]

/-- The two partial sums of squares the block adds make the variance of the row's features. -/
theorem var_eq :
    (∑ x, (x0 (ix2 r x) - mean (rowFeat x0 x1 x2 x3 x4 r)) * (x0 (ix2 r x) - mean (rowFeat x0 x1 x2 x3 x4 r))
      + ∑ x : Fin 128, (rowFeat x0 x1 x2 x3 x4 r ⟨2048 + x.val, by omega⟩ - mean (rowFeat x0 x1 x2 x3 x4 r))
        * (rowFeat x0 x1 x2 x3 x4 r ⟨2048 + x.val, by omega⟩ - mean (rowFeat x0 x1 x2 x3 x4 r))) * invD
      = var (rowFeat x0 x1 x2 x3 x4 r) := by
  unfold var
  rw [sum_columns fun k => (rowFeat x0 x1 x2 x3 x4 r k - mean (rowFeat x0 x1 x2 x3 x4 r)) * (rowFeat x0 x1 x2 x3 x4 r k - mean (rowFeat x0 x1 x2 x3 x4 r))]
  simp only [rowFeat_low]

/-- The first 2048 columns of a row of the block. -/
theorem low_eq (k : Fin 2048) :
    low x0 x1 x2 x3 x4 x5 x6 (ix2 r k)
      = normed (rowFeat x0 x1 x2 x3 x4 r) (fun j => x5 (ix2 0 j)) (fun j => x6 (ix2 0 j)) ⟨k.val, by omega⟩ := by
  have h : low x0 x1 x2 x3 x4 x5 x6 (ix2 r k)
      = (x0 (ix2 r k) - k1_pay7 x0 (cut x1) x2 x3 x4 (ix2 r 0))
        * Ideal.rsqrt ((∑ x, (x0 (ix2 r x) - k1_pay7 x0 (cut x1) x2 x3 x4 (ix2 r 0)) * (x0 (ix2 r x) - k1_pay7 x0 (cut x1) x2 x3 x4 (ix2 r 0))
            + ∑ x, (k1_pay6 (cut x1) x2 x3 x4 (ix2 r x) - k1_pay7 x0 (cut x1) x2 x3 x4 (ix2 r 0)) * (k1_pay6 (cut x1) x2 x3 x4 (ix2 r x) - k1_pay7 x0 (cut x1) x2 x3 x4 (ix2 r 0)))
            * Named.named (F := Idealize.ShloMosaic.Ideal) κ "inv_d" (φ := .f32) 0x39F0F0F1#32 + Ideal.ofBits .f32 0x3727C5AC#32)
        * x5 (ix2 0 ⟨k.val, by omega⟩) + x6 (ix2 0 ⟨k.val, by omega⟩) := by
    pointwise [low, k1_pay4, k1_pay1, k1_pay2, k1_pay3, k1_pay8, k1_pay9, k1_pay10, k1_pay11]
  rw [h, named_invD, pay7_eq]
  simp only [pay6_eq x0]
  rw [var_eq]
  unfold normed eps
  rw [rowFeat_low]

/-- The last 128 columns of a row of the block. -/
theorem high_eq (k : Fin 128) :
    high x0 x1 x2 x3 x4 x5 x6 (ix2 r k)
      = normed (rowFeat x0 x1 x2 x3 x4 r) (fun j => x5 (ix2 0 j)) (fun j => x6 (ix2 0 j)) ⟨2048 + k.val, by omega⟩ := by
  have h : high x0 x1 x2 x3 x4 x5 x6 (ix2 r k)
      = (k1_pay6 (cut x1) x2 x3 x4 (ix2 r k) - k1_pay7 x0 (cut x1) x2 x3 x4 (ix2 r 0))
        * Ideal.rsqrt ((∑ x, (x0 (ix2 r x) - k1_pay7 x0 (cut x1) x2 x3 x4 (ix2 r 0)) * (x0 (ix2 r x) - k1_pay7 x0 (cut x1) x2 x3 x4 (ix2 r 0))
            + ∑ x, (k1_pay6 (cut x1) x2 x3 x4 (ix2 r x) - k1_pay7 x0 (cut x1) x2 x3 x4 (ix2 r 0)) * (k1_pay6 (cut x1) x2 x3 x4 (ix2 r x) - k1_pay7 x0 (cut x1) x2 x3 x4 (ix2 r 0)))
            * Named.named (F := Idealize.ShloMosaic.Ideal) κ "inv_d" (φ := .f32) 0x39F0F0F1#32 + Ideal.ofBits .f32 0x3727C5AC#32)
        * x5 (ix2 0 ⟨2048 + k.val, by omega⟩) + x6 (ix2 0 ⟨2048 + k.val, by omega⟩) := by
    pointwise [high, k1_pay5, k1_pay1, k1_pay2, k1_pay3, k1_pay8, k1_pay9, k1_pay10, k1_pay11]
  rw [h, named_invD, pay7_eq]
  simp only [pay6_eq x0]
  rw [var_eq]
  rfl

/-- **Row `r` of the block** is the normalized row of the features of row `r`. -/
theorem blockOut_row (k : Fin 2176) :
    blockOut x0 x1 x2 x3 x4 x5 x6 (ix2 r k)
      = normed (rowFeat x0 x1 x2 x3 x4 r) (fun j => x5 (ix2 0 j)) (fun j => x6 (ix2 0 j)) k := by
  unfold blockOut
  by_cases h : k.val < 2048
  · exact (dif_pos h).trans (low_eq x0 x1 x2 x3 x4 x5 x6 r ⟨k.val, h⟩)
  · refine (dif_neg h).trans ((high_eq x0 x1 x2 x3 x4 x5 x6 r ⟨k.val - 2048, by omega⟩).trans ?_)
    exact congrArg _ (Fin.ext (by show 2048 + (k.val - 2048) = k.val; omega))

end Cert.Proof.Ideal

end
-- ==== Proof.Ideal.Value.lean ====
/-
  What the kernel's result holds over the extended reals: each window's block at coordinates, and the result array as
  the array `out` of `Spec` of the arguments.
-/
module

public import proofs.«01_k».proof.Proof.Ideal.Row
public import proofs.«01_k».proof.Proof.Ideal.Run
public import Idealize.ShloMosaic.Lib.Pipeline.ValueKit.Geometry

@[expose] public section

set_option maxRecDepth 16384

noncomputable section

namespace Cert.Proof.Ideal

open Cert.KernelIdeal Cert.KernelIdeal.Gen
open Idealize.ShloMosaic Idealize.ShloMosaic.TcCoe
open Idealize.ShloMosaic.Pipeline (Dat)

/-! ## Where the blocks lie -/

theorem at_0 : ∀ t : Fin cfg1.N, win1_0.index t = ![t.val, 0] := (by decide +kernel : ∀ t : Fin grid1.N, _)
theorem at_1 : ∀ t : Fin cfg1.N, win1_1.index t = ![t.val, 0] := (by decide +kernel : ∀ t : Fin grid1.N, _)
theorem at_2 : ∀ t : Fin cfg1.N, win1_2.index t = ![t.val, 0] := (by decide +kernel : ∀ t : Fin grid1.N, _)
theorem at_3 : ∀ t : Fin cfg1.N, win1_3.index t = ![0, 0] := (by decide +kernel : ∀ t : Fin grid1.N, _)
theorem at_4 : ∀ t : Fin cfg1.N, win1_4.index t = ![0, 0] := (by decide +kernel : ∀ t : Fin grid1.N, _)
theorem at_5 : ∀ t : Fin cfg1.N, win1_5.index t = ![0, 0] := (by decide +kernel : ∀ t : Fin grid1.N, _)
theorem at_6 : ∀ t : Fin cfg1.N, win1_6.index t = ![0, 0] := (by decide +kernel : ∀ t : Fin grid1.N, _)
theorem at_7 : ∀ t : Fin cfg1.N, win1_7.index t = ![t.val, 0] := (by decide +kernel : ∀ t : Fin grid1.N, _)

variable (V : Vals Idealize.ShloMosaic.Ideal) (c : Dev nD) (t : Fin cfg1.N)

theorem t_lt : t.val < 64 := t.isLt

/-- Row `r` of point `t`'s block, in the arrays of 16384 rows. -/
def rowAt (r : Fin 256) : Fin 16384 := ⟨t.val * 256 + r.val, by have := t_lt t; omega⟩

theorem blk_0 (r : Fin 256) (j : Fin 2048) : iblk V c 0 t (ix2 r j) = V c main_arg0 (ix2 (rowAt t r) j) := by
  blk_simp [iblk]
  refine congrArg (V c main_arg0) ?_
  blk_ext [at_0, rowAt]

theorem blk_1 (r : Fin 256) (j : Fin 128) : iblk V c 1 t (ix2 r j) = V c main_v1 (ix2 (rowAt t r) j) := by
  blk_simp [iblk]
  refine congrArg (V c main_v1) ?_
  blk_ext [at_1, rowAt]

theorem blk_2 (r : Fin 256) (j : Fin 2) : iblk V c 2 t (ix2 r j) = V c main_arg2 (ix2 (rowAt t r) j) := by
  blk_simp [iblk]
  refine congrArg (V c main_arg2) ?_
  blk_ext [at_2, rowAt]

theorem blk_3 (i : Fin 2) (j : Fin 64) : iblk V c 3 t (ix2 i j) = V c main_arg4 (ix2 i j) := by
  blk_simp [iblk]
  refine congrArg (V c main_arg4) ?_
  blk_ext [at_3]

theorem blk_4 (j : Fin 64) : iblk V c 4 t (ix2 0 j) = V c main_v2 (ix2 0 j) := by
  blk_simp [iblk]
  refine congrArg (V c main_v2) ?_
  blk_ext [at_4]

theorem blk_5 (j : Fin 2176) : iblk V c 5 t (ix2 0 j) = V c main_v3 (ix2 0 j) := by
  blk_simp [iblk]
  refine congrArg (V c main_v3) ?_
  blk_ext [at_5]

theorem blk_6 (j : Fin 2176) : iblk V c 6 t (ix2 0 j) = V c main_v4 (ix2 0 j) := by
  blk_simp [iblk]
  refine congrArg (V c main_v4) ?_
  blk_ext [at_6]

/-! ## The arrays the blocks are cut from -/

variable (m : (ℓ : Loc nD τ sig) → Buf (Elt Idealize.ShloMosaic.Ideal) ℓ)

/-- A table padded on the right, read in its first 64 columns. -/
theorem pad_row (T : S9x64.Idx → EReal) (v : S_.Idx → EReal) (z : Fin 9) (j : Fin 64) :
    pad S9x128 ![0, 0] ![0, 64] ![0, 0] T v pads_S9x64_S9x128_000_0640 h_S_ (ix2 z (Fin.castLE (by decide) j)) = T (ix2 z j) := by
  pointwise
  exact dif_pos j.isLt

theorem row64 (x : S64.Idx → EReal) (j : Fin 64) : shapeCast S1x64 x shapeCasts_S64_S1x64 (ix2 0 j) = x (ix1 j) := by
  pointwise

theorem row2176 (x : S2176.Idx → EReal) (j : Fin 2176) : shapeCast S1x2176 x shapeCasts_S2176_S1x2176 (ix2 0 j) = x (ix1 j) := by
  pointwise

/-- The first 64 columns of a gathered row are the row of the table that the row's zone index names. -/
theorem Vf_zone (b : Fin 16384) (j : Fin 64) :
    Vf m c main_v1 (ix2 b (Fin.castLE (by decide) j)) = m ((c : Thread nD τ).loc main_arg3) (ix2 (zrow (m (iLoc c) (ix1 b))) j) := by
  rw [Vf_v1]
  exact pad_row _ _ _ j

theorem Vf_bias (j : Fin 64) : Vf m c main_v2 (ix2 0 j) = m ((c : Thread nD τ).loc main_arg5) (ix1 j) := by
  rw [Vf_v2]; exact row64 _ j

theorem Vf_scale (j : Fin 2176) : Vf m c main_v3 (ix2 0 j) = m ((c : Thread nD τ).loc main_arg6) (ix1 j) := by
  rw [Vf_v3]; exact row2176 _ j

theorem Vf_shift (j : Fin 2176) : Vf m c main_v4 (ix2 0 j) = m ((c : Thread nD τ).loc main_arg7) (ix1 j) := by
  rw [Vf_v4]; exact row2176 _ j

/-! ## The result -/

/-- The result of the arguments on device `c`. -/
def want : Buf (Elt Idealize.ShloMosaic.Ideal) ((c : Thread nD τ).loc main_v5) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the body leaves at point `t` is that point's block of the result. -/
theorem outsAt_row (r : Fin 256) (k : Fin 2176) : outsAt (Vf m) c t (ix2 r k) = want c m (ix2 (rowAt t r) k) := by
  unfold outsAt
  rw [blockOut_row]
  unfold rowFeat
  simp only [blk_0, blk_1, blk_2, blk_3, blk_4, blk_5, blk_6, Vf_zone, Vf_bias, Vf_scale, Vf_shift]
  rw [Vf_of m c main_arg0 (by decide) (by decide) (by decide), Vf_of m c main_arg2 (by decide) (by decide) (by decide),
    Vf_of m c main_arg4 (by decide) (by decide) (by decide)]
  rfl

/-- **The result of the run** is the array `out` of the arguments. -/
theorem result_eq : result m c = want c m := by
  unfold result
  refine (dats (Vf m) 0 c).arrAt_eq_of_covers 7 _ (by decide +kernel) fun t hf y => ?_
  let r : Fin 256 := y 0
  let k : Fin 2176 := y 1
  have e : ((cfg1.win 7).blk t).view.emb y = ix2 (rowAt t r) k := by
    blk_ext [at_7, rowAt, r, k]
  refine Eq.trans ?_ (congrArg (want c m) e.symm)
  refine Eq.trans ?_ (outsAt_row c t m r k)
  rw [after_7]
  refine congrArg (outsAt (Vf m) c t) ?_
  funext a
  match a with
  | ⟨0, _⟩ => rfl
  | ⟨1, _⟩ => rfl

end Cert.Proof.Ideal

end
-- ==== Proof.RefValue.lean ====
/-
  What the reference's result holds over the extended reals, where every zone index is one of the nine rows: the array
  `out` of `Spec` of the arguments.
-/
module

public import proofs.«01_k».proof.Proof.Gen.ReferenceIdeal.Run
public import proofs.«01_k».proof.Proof.Spec
public import Idealize.ShloMosaic.Lib.ReduceAll
public import Idealize.ShloMosaic.Lib.Routing.Ops

@[expose] public section

set_option maxRecDepth 16384

noncomputable section

namespace Cert.Proof.Reference

open Cert.ReferenceIdeal Cert.ReferenceIdeal.Gen
open Idealize.ShloMosaic Idealize.ShloMosaic.TcCoe

/-! ## The reference's steps, as functions of arrays -/

/-- The zone indices with a negative one counted from the end, as a column. -/
def wrapped (I : IVec S16384 32) : IVec S16384x1 32 :=
  broadcastInDim S16384x1 ![0] bcast_S16384_S16384x1_0 (select (cmpi .slt I (broadcastInDim S16384 ![] bcast_S_S16384 (constantI S_ 32 0#32))) (addi I (broadcastInDim S16384 ![] bcast_S_S16384 (constantI S_ 32 9#32))) I)

/-- Whether each index is one of the table's rows. -/
def inTable (I : IVec S16384 32) : IVec S16384x1 1 :=
  andi (cmpi .sge (wrapped I) (broadcastInDim S16384x1 ![] bcast_S_S16384x1 (constantI S_ 32 0#32))) (cmpi .sle (wrapped I) (broadcastInDim S16384x1 ![0, 1] bcast_S1x1_S16384x1_0_1 (broadcastInDim S1x1 ![1] bcast_S1_S1x1_1 (constantI S1 32 8#32))))

/-- The zone's embedding: the rows of the table at the indices, and no number where an index is no row. -/
def zoneEmb (T : FVec Idealize.ShloMosaic.Ideal S9x64 .f32) (I : IVec S16384 32) : FVec Idealize.ShloMosaic.Ideal S16384x64 .f32 :=
  select (broadcastInDim S16384x64 ![0] bcast_S16384_S16384x64_0 (Host.reduce IntOp.andi (inTable I) (constantI S_ 1 1#1) reducesTo_S16384x1_S16384_d1 h_S_)) (Host.gather gather_S9x64_S16384x1_S16384x64_1_0_n_n_0_1_164 T (wrapped I)) (broadcastInDim S16384x64 ![] bcast_S_S16384x64 (constant S_ .f32 0x7FC00000#32))

/-- The month's embedding. -/
def monthEmbs (P : FVec Idealize.ShloMosaic.Ideal S16384x2 .f32) (W : FVec Idealize.ShloMosaic.Ideal S2x64 .f32) (B : FVec Idealize.ShloMosaic.Ideal S64 .f32) : FVec Idealize.ShloMosaic.Ideal S16384x64 .f32 :=
  maximumf (addf (Host.dotGeneral dot_S16384x2_S2x64_S16384x64_1_0_0_1_n_n none P W) (broadcastInDim S16384x64 ![0, 1] bcast_S1x64_S16384x64_0_1 (broadcastInDim S1x64 ![1] bcast_S64_S1x64_1 B))) (broadcastInDim S16384x64 ![] bcast_S_S16384x64 (constant S_ .f32 0x00000000#32))

/-- The three pieces side by side. -/
def joined (X : FVec Idealize.ShloMosaic.Ideal S16384x2048 .f32) (Z Q : FVec Idealize.ShloMosaic.Ideal S16384x64 .f32) : FVec Idealize.ShloMosaic.Ideal S16384x2176 .f32 :=
  concatenate S16384x2176 1 [⟨S16384x2048, X⟩, ⟨S16384x64, Z⟩, ⟨S16384x64, Q⟩] concatenates_S16384x2048_S16384x64_S16384x64_S16384x2176_d1

/-- A column of row sums divided by the number of columns. -/
def avg (f : FVec Idealize.ShloMosaic.Ideal S16384x2176 .f32) : FVec Idealize.ShloMosaic.Ideal S16384x1 .f32 :=
  Host.divf (broadcastInDim S16384x1 ![0] bcast_S16384_S16384x1_0 (Host.reduceAdd f (constant S_ .f32 0x00000000#32) reducesTo_S16384x2176_S16384_d1 h_S_)) (broadcastInDim S16384x1 ![] bcast_S_S16384x1 (constant S_ .f32 0x45080000#32))

/-- The deviations from the rows' means. -/
def devs (f : FVec Idealize.ShloMosaic.Ideal S16384x2176 .f32) : FVec Idealize.ShloMosaic.Ideal S16384x2176 .f32 :=
  subf f (broadcastInDim S16384x2176 ![0, 1] bcast_S16384x1_S16384x2176_0_1 (avg f))

/-- The normalized, scaled and shifted rows. -/
def normedRows (f : FVec Idealize.ShloMosaic.Ideal S16384x2176 .f32) (g o : FVec Idealize.ShloMosaic.Ideal S2176 .f32) : FVec Idealize.ShloMosaic.Ideal S16384x2176 .f32 :=
  addf (mulf (Host.divf (devs f) (broadcastInDim S16384x2176 ![0, 1] bcast_S16384x1_S16384x2176_0_1 (Host.sqrt (addf (avg (mulf (devs f) (devs f))) (broadcastInDim S16384x1 ![] bcast_S_S16384x1 (constant S_ .f32 0x3727C5AC#32)))))) (broadcastInDim S16384x2176 ![0, 1] bcast_S1x2176_S16384x2176_0_1 (broadcastInDim S1x2176 ![1] bcast_S2176_S1x2176_1 g))) (broadcastInDim S16384x2176 ![0, 1] bcast_S1x2176_S16384x2176_0_1 (broadcastInDim S1x2176 ![1] bcast_S2176_S1x2176_1 o))

/-- The reference's result is those steps, one after the other. -/
theorem res_eq (m : (ℓ : Loc nD τ sig) → Buf (Elt Idealize.ShloMosaic.Ideal) ℓ) (c : Dev nD) :
    Cert.ReferenceIdeal.Value.res_main_v30 m c
      = normedRows (joined (m ((c.tc : Thread nD τ).loc main_arg0)) (zoneEmb (m ((c.tc : Thread nD τ).loc main_arg3)) (m ((c.tc : Thread nD τ).loc main_arg1)))
          (monthEmbs (m ((c.tc : Thread nD τ).loc main_arg2)) (m ((c.tc : Thread nD τ).loc main_arg4)) (m ((c.tc : Thread nD τ).loc main_arg5))))
        (m ((c.tc : Thread nD τ).loc main_arg6)) (m ((c.tc : Thread nD τ).loc main_arg7)) := rfl

/-! ## Each step at an index -/

/-- A word below nine is not negative and at most eight, as a signed word. -/
theorem word_in_table (v : BitVec 32) (h : v.toNat < 9) :
    IntOp.cmpi .slt v 0#32 = 0#1 ∧ IntOp.cmpi .sge v 0#32 = 1#1 ∧ IntOp.cmpi .sle v 8#32 = 1#1 := by
  obtain ⟨n, hn, rfl⟩ : ∃ n, n < 9 ∧ v = BitVec.ofNat 32 n := ⟨v.toNat, h, by simp⟩
  interval_cases n <;> decide

theorem wrapped_at (I : IVec S16384 32) (h : ∀ j, (I j).toNat < 9) (b : Fin 16384) : wrapped I (ix2 b 0) = I (ix1 b) := by
  have e : wrapped I (ix2 b 0) = if IntOp.cmpi .slt (I (ix1 b)) 0#32 = 1#1 then IntOp.addi (I (ix1 b)) 9#32 else I (ix1 b) := by
    pointwise [wrapped, Scalar.select]
    rfl
  rw [e, (word_in_table _ (h _)).1, if_neg (by decide)]

theorem inTable_at (I : IVec S16384 32) (h : ∀ j, (I j).toNat < 9) (b : Fin 16384) : inTable I (ix2 b 0) = 1#1 := by
  have e : inTable I (ix2 b 0) = IntOp.andi (IntOp.cmpi .sge (wrapped I (ix2 b 0)) 0#32) (IntOp.cmpi .sle (wrapped I (ix2 b 0)) 8#32) := by
    pointwise [inTable]
  rw [e, wrapped_at I h, (word_in_table _ (h _)).2.1, (word_in_table _ (h _)).2.2]
  rfl

/-- Row `b` of the zone's embedding is the table's row that the index names. -/
theorem zoneEmb_at (T : FVec Idealize.ShloMosaic.Ideal S9x64 .f32) (I : IVec S16384 32) (h : ∀ j, (I j).toNat < 9) (b : Fin 16384) (k : Fin 64) :
    zoneEmb T I (ix2 b k) = T (ix2 ⟨(I (ix1 b)).toNat % 9, Nat.mod_lt _ (by decide)⟩ k) := by
  have hm : Host.reduce IntOp.andi (inTable I) (constantI S_ 1 1#1) reducesTo_S16384x1_S16384_d1 h_S_ (ix1 b) = 1#1 := by
    refine Host.reduce_andi_one _ _ _ _ _ rfl fun i => ?_
    idx_vars i
    rw [Subsingleton.elim (i1 : Fin 1) 0]
    exact inTable_at I h _
  have e : zoneEmb T I (ix2 b k)
      = if Host.reduce IntOp.andi (inTable I) (constantI S_ 1 1#1) reducesTo_S16384x1_S16384_d1 h_S_ (ix1 b) = 1#1
        then Host.gather gather_S9x64_S16384x1_S16384x64_1_0_n_n_0_1_164 T (wrapped I) (ix2 b k) else Ideal.ofBits .f32 0x7FC00000#32 := by
    unfold zoneEmb
    generalize Host.reduce IntOp.andi (inTable I) (constantI S_ 1 1#1) reducesTo_S16384x1_S16384_d1 h_S_ = p
    generalize Host.gather gather_S9x64_S16384x1_S16384x64_1_0_n_n_0_1_164 T (wrapped I) = q
    pointwise [Scalar.select]
    rfl
  rw [e, if_pos hm]
  refine Routing.gather_row gather_S9x64_S16384x1_S16384x64_1_0_n_n_0_1_164 rfl rfl rfl rfl rfl T (wrapped I) b k _ ?_ (by norm_num)
  refine (wrapped_at I h b).trans ?_
  show _ = BitVec.ofNat 32 ((I (ix1 b)).toNat % 9)
  rw [Nat.mod_eq_of_lt (h _)]
  simp

theorem monthEmbs_at (P : FVec Idealize.ShloMosaic.Ideal S16384x2 .f32) (W : FVec Idealize.ShloMosaic.Ideal S2x64 .f32) (B : FVec Idealize.ShloMosaic.Ideal S64 .f32) (b : Fin 16384) (k : Fin 64) :
    monthEmbs P W B (ix2 b k) = monthEmb (fun i => P (ix2 b i)) (fun i j => W (ix2 i j)) (fun j => B (ix1 j)) k := by
  unfold monthEmb
  pointwise [monthEmbs, Fin.sum_univ_two]

theorem joined_at (X : FVec Idealize.ShloMosaic.Ideal S16384x2048 .f32) (Z Q : FVec Idealize.ShloMosaic.Ideal S16384x64 .f32) (b : Fin 16384) (k : Fin 2176) :
    joined X Z Q (ix2 b k) = feat (fun j => X (ix2 b j)) (fun j => Z (ix2 b j)) (fun j => Q (ix2 b j)) k := by
  unfold feat
  pointwise [joined]

theorem avg_at (f : FVec Idealize.ShloMosaic.Ideal S16384x2176 .f32) (b : Fin 16384) : avg f (ix2 b 0) = (∑ k, f (ix2 b k)) * invD := by
  rw [← div_width]
  pointwise [avg]

theorem devs_at (f : FVec Idealize.ShloMosaic.Ideal S16384x2176 .f32) (b : Fin 16384) (k : Fin 2176) :
    devs f (ix2 b k) = f (ix2 b k) - mean fun j => f (ix2 b j) := by
  unfold mean
  rw [← avg_at]
  unfold devs
  generalize avg f = a
  pointwise

/-- A normalized row of the reference is the normalized row of `Spec`. -/
theorem normedRows_at (f : FVec Idealize.ShloMosaic.Ideal S16384x2176 .f32) (g o : FVec Idealize.ShloMosaic.Ideal S2176 .f32) (b : Fin 16384) (k : Fin 2176) :
    normedRows f g o (ix2 b k) = normed (fun j => f (ix2 b j)) (fun j => g (ix1 j)) (fun j => o (ix1 j)) k := by
  have e : normedRows f g o (ix2 b k)
      = Ideal.div (devs f (ix2 b k)) (Ideal.sqrt (avg (mulf (devs f) (devs f)) (ix2 b 0) + Ideal.ofBits .f32 0x3727C5AC#32)) * g (ix1 k) + o (ix1 k) := by
    unfold normedRows
    generalize avg (mulf (devs f) (devs f)) = a
    generalize devs f = d
    pointwise
  have hv : avg (mulf (devs f) (devs f)) (ix2 b 0) = var fun j => f (ix2 b j) := by
    rw [avg_at]
    unfold var
    refine congrArg (· * invD) (Finset.sum_congr rfl fun j _ => ?_)
    exact congrArg₂ (· * ·) (devs_at f b j) (devs_at f b j)
  rw [e, hv, devs_at]
  unfold normed
  rw [← div_sqrt _ _ (var_eps_pos _)]
  rfl

/-- **The reference's result** is the array `out` of the arguments, where every zone index is below nine. -/
theorem res_out (m : (ℓ : Loc nD τ sig) → Buf (Elt Idealize.ShloMosaic.Ideal) ℓ) (c : Dev nD)
    (h : ∀ j, (m ((c.tc : Thread nD τ).loc main_arg1) j : BitVec 32).toNat < 9) :
    Cert.ReferenceIdeal.Value.res_main_v30 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [res_eq]
  funext y
  have hy : y = ix2 (y 0 : Fin 16384) (y 1 : Fin 2176) := by
    funext a
    match a with
    | ⟨0, _⟩ => rfl
    | ⟨1, _⟩ => rfl
  refine (congrArg _ hy).trans ((normedRows_at _ _ _ _ _).trans ?_)
  unfold out
  refine congrArg (fun f => normed f _ _ _) (funext fun k => ?_)
  refine (joined_at _ _ _ _ k).trans ?_
  refine congrArg₂ (fun z p => feat _ z p k) (funext fun j => zoneEmb_at _ _ h _ j) (funext fun j => monthEmbs_at _ _ _ _ j)

end Cert.Proof.Reference

end
-- ==== Proof.Zone.lean ====
/-
  What the claims' precondition says: every zone index is one of the nine rows.
-/
module

public import proofs.«01_k».proof.Pre_zone_in_range
public import proofs.«01_k».proof.Proof.Gen.Pre_zone_in_range
public import Idealize.ShloMosaic.Lib.ReduceAll
public import Idealize.ShloMosaic.Lib.Pointwise.Index

@[expose] public section

noncomputable section

namespace Cert.Proof

open Idealize.ShloMosaic Cert.Pre_zone_in_range

/-- A word that is at least 0 and below 9, both as signed words, is a number below nine. -/
theorem word_below_nine (v : BitVec 32) (h : IntOp.andi (IntOp.cmpi .sge v 0#32) (IntOp.cmpi .slt v 9#32) = 1#1) : v.toNat < 9 := by
  obtain ⟨h1, h2⟩ := IntOp.andi_eq_one.1 h
  have one : ∀ p : Bool, BitVec.ofBool p = 1#1 → p = true := by decide
  have h1 := one _ h1
  have h2 := one _ h2
  simp only [BitVec.sle_eq_decide, BitVec.slt_eq_decide, decide_eq_true_eq, BitVec.toInt_eq_toNat_cond, BitVec.toNat_ofNat, Nat.reducePow, Nat.reduceMod] at h1 h2
  omega

/-- The precondition, all ones, puts every zone index below nine, at any float instance. -/
theorem zone_below {F : FTy → Type} [FloatOps F] (a0 : FVec F S16384x2048 .f32) (I : IVec S16384 32) (a2 : FVec F S16384x2 .f32)
    (a3 : FVec F S9x64 .f32) (a4 : FVec F S2x64 .f32) (a5 : FVec F S64 .f32) (a6 a7 : FVec F S2176 .f32)
    (h : Cert.Pre_zone_in_range.fn a0 I a2 a3 a4 a5 a6 a7 = fun _ => 1#1) (j : S16384.Idx) : (I j).toNat < 9 := by
  have e := congrFun h ix0
  dsimp only [Cert.Pre_zone_in_range.fn] at e
  haveI : Subsingleton S_.Idx := ⟨fun a b => funext fun k => k.elim0⟩
  have e' := Host.reduce_andi_all _ _ _ _ _ e j
  exact word_below_nine _ e'

end Cert.Proof

end
-- ==== Proof.lean ====
/-
  The certificate's claim, from the modules under Proof/: the run of the program as printed and of its idealization
  (Bits/, Ideal/), the reference's run, and the two results as one array of the arguments (Ideal/Value, RefValue).
-/
module

public import proofs.«01_k».proof.Defs
public import proofs.«01_k».proof.Proof.Bits.Whole
public import proofs.«01_k».proof.Proof.Ideal.Whole
public import proofs.«01_k».proof.Proof.Ideal.Value
public import proofs.«01_k».proof.Proof.RefValue
public import proofs.«01_k».proof.Proof.Zone
public import Idealize.ShloMosaic.Lib.Quiescent

@[expose] public section

noncomputable section

namespace Cert.Proof

open Idealize.ShloMosaic Idealize.SL.Sem

/-- The kernel runs to the end at machine words, its arguments unchanged and every semaphore at zero. -/
theorem frame_kernel : Cert.quiescent_Kernel := fun m g hpre =>
  (θ_run (Cert.Kernel.defs (F := Bits)) _ _).mono
    (fun r h => ⟨fun c => by
      obtain ⟨h0, h1, h2, h3, h4, h5, h6, h7, -⟩ := h.1 c
      exact ⟨h0, h1, h2, h3, h4, h5, h6, h7⟩, h.2⟩)
    (Bits.run_main (F := Bits) m g fun d => zone_below _ _ _ _ _ _ _ _ (hpre d))

/-- So does its idealization, over the extended reals. -/
theorem frame_ideal : Cert.quiescent_KernelIdeal := fun m g hpre =>
  (θ_run (Cert.KernelIdeal.defs (F := Idealize.ShloMosaic.Ideal)) _ _).mono
    (fun r h => ⟨fun c => by
      obtain ⟨h0, h1, h2, h3, h4, h5, h6, h7, -⟩ := h.1 c
      exact ⟨h0, h1, h2, h3, h4, h5, h6, h7⟩, h.2⟩)
    (Ideal.run_main (F := Idealize.ShloMosaic.Ideal) m g fun d => zone_below _ _ _ _ _ _ _ _ (hpre d))

/-- So does the reference, whatever its indices, -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Idealize.ShloMosaic.Ideal) m g)

/-- and so in particular where they are in range. -/
theorem frame_reference_in_range : Cert.quiescent_ReferenceIdeal_pre_zone_in_range := fun m g _ => frame_reference m g trivial

/-- The constant the idealization names is the kernel's word at machine words and 1/2176 over the extended reals. -/
theorem preserves : Cert.preserves_Kernel_KernelIdeal :=
  IdealRules.named_const.statement Cert.KernelIdeal.κ "inv_d" .f32 0x39F0F0F1#32 ((1 / 2176 : ℝ) : EReal) rfl

/-- Over the extended reals, from the same arguments, the kernel's idealization and the reference end with the same
    result, which is the array `out` of the arguments. -/
theorem algebraic : Cert.algebraic_KernelIdeal_ReferenceIdeal := fun m g m' g' hpre hsame => by
  have hz : ∀ (d : Dev Cert.KernelIdeal.nD) j, (m (((d : Dev Cert.KernelIdeal.nD).tc : Thread Cert.KernelIdeal.nD Cert.KernelIdeal.τ).loc Cert.KernelIdeal.main_arg1) j : BitVec 32).toNat < 9 :=
    fun d => zone_below _ _ _ _ _ _ _ _ (hpre d)
  refine ⟨fun c => Ideal.want c m, ?_, ?_⟩
  · refine (θ_run (Cert.KernelIdeal.defs (F := Idealize.ShloMosaic.Ideal)) _ _).mono (fun r h c => ?_)
      (Ideal.run_main (F := Idealize.ShloMosaic.Ideal) m g hz)
    obtain ⟨h0, h1, h2, h3, h4, h5, h6, h7, h8⟩ := h.1 c
    exact ⟨h8.trans (Ideal.result_eq c m), h0, h1, h2, h3, h4, h5, h6, h7⟩
  · refine (θ_run Cert.ReferenceIdeal.defs _ _).mono (fun r h c => ⟨(h c).1.trans ?_, (h c).2⟩)
      (Cert.ReferenceIdeal.Value.run (F := Idealize.ShloMosaic.Ideal) m' g')
    obtain ⟨h0, h1, h2, h3, h4, h5, h6, h7⟩ := hsame c
    refine (Reference.res_out m' c fun j => ?_).trans ?_
    · rw [h1]; exact hz c j
    · rw [h0, h1, h2, h3, h4, h5, h6, h7]; rfl

/-- Everything the certificate claims. -/
theorem claim : Cert.Claim :=
  ⟨Cert.Kernel.Gen.facts, Cert.KernelIdeal.Gen.facts, Cert.ReferenceIdeal.Gen.facts, Cert.Pre_zone_in_range.Gen.facts,
    frame_kernel, frame_ideal, frame_reference, frame_reference_in_range, preserves, algebraic⟩

end Cert.Proof

end
